-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_EvenProj (m : (ℓ : Loc Cert.EvenProj.nD Cert.EvenProj.τ Cert.EvenProj.sig) → Buf (Elt Bits) ℓ) : Prop :=
  True

def Pre_EvenProjIdeal (m : (ℓ : Loc Cert.EvenProjIdeal.nD Cert.EvenProjIdeal.τ Cert.EvenProjIdeal.sig) → Buf (Elt Ideal) ℓ) : Prop :=
  True

def Pre_EvenProjReferenceIdeal (m : (ℓ : Loc Cert.EvenProjReferenceIdeal.nD Cert.EvenProjReferenceIdeal.τ Cert.EvenProjReferenceIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutReferenceIdeal (m : (ℓ : Loc Cert.EvenOutReferenceIdeal.nD Cert.EvenOutReferenceIdeal.τ Cert.EvenOutReferenceIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutReferenceIdeal (m : (ℓ : Loc Cert.OddOutReferenceIdeal.nD Cert.OddOutReferenceIdeal.τ Cert.OddOutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_EvenProj [hEvenProj : Cert.EvenProj.Facts] : Prop :=
  ∀ (m : (ℓ : Loc Cert.EvenProj.nD Cert.EvenProj.τ Cert.EvenProj.sig) → Buf (Elt Bits) ℓ) (g : Dev Cert.EvenProj.nD → PrngReg), Pre_EvenProj m →
    θ_run (Cert.EvenProj.defs (F := Bits)) (onTc (τ := Cert.EvenProj.τ) (Cert.EvenProj.main (F := Bits))) ⟨m, fun _ => 0, g⟩ (fun r => (∀ c : Dev Cert.EvenProj.nD,
      r.2.mem ((c.tc : Thread Cert.EvenProj.nD Cert.EvenProj.τ).loc Cert.EvenProj.main_arg0) = m ((c.tc : Thread Cert.EvenProj.nD Cert.EvenProj.τ).loc Cert.EvenProj.main_arg0)
      ∧ r.2.mem ((c.tc : Thread Cert.EvenProj.nD Cert.EvenProj.τ).loc Cert.EvenProj.main_arg1) = m ((c.tc : Thread Cert.EvenProj.nD Cert.EvenProj.τ).loc Cert.EvenProj.main_arg1)
      ∧ r.2.mem ((c.tc : Thread Cert.EvenProj.nD Cert.EvenProj.τ).loc Cert.EvenProj.main_arg2) = m ((c.tc : Thread Cert.EvenProj.nD Cert.EvenProj.τ).loc Cert.EvenProj.main_arg2))
      ∧ r.2.sem = fun _ => 0)

def quiescent_EvenProjIdeal [hEvenProjIdeal : Cert.EvenProjIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg), Pre_EvenProjIdeal m →
    θ_run (Cert.EvenProjIdeal.defs (F := Ideal)) (onTc (τ := Cert.EvenProjIdeal.τ) (Cert.EvenProjIdeal.main (F := Ideal))) ⟨m, fun _ => 0, g⟩ (fun r => (∀ c : Dev Cert.EvenProjIdeal.nD,
      r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
      ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
      ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2))
      ∧ r.2.sem = fun _ => 0)

def quiescent_EvenProjReferenceIdeal [hEvenProjReferenceIdeal : Cert.EvenProjReferenceIdeal.Facts] : Prop :=
  ∀ (m : (ℓ : Loc Cert.EvenProjReferenceIdeal.nD Cert.EvenProjReferenceIdeal.τ Cert.EvenProjReferenceIdeal.sig) → Buf (Elt Ideal) ℓ) (g : Dev Cert.EvenProjReferenceIdeal.nD → PrngReg), Pre_EvenProjReferenceIdeal m →
    θ_run (Cert.EvenProjReferenceIdeal.defs (F := Ideal)) (onTc (τ := Cert.EvenProjReferenceIdeal.τ) (Cert.EvenProjReferenceIdeal.main (F := Ideal))) ⟨m, fun _ => 0, g⟩ (fun r => (∀ c : Dev Cert.EvenProjReferenceIdeal.nD,
      r.2.mem ((c.tc : Thread Cert.EvenProjReferenceIdeal.nD Cert.EvenProjReferenceIdeal.τ).loc Cert.EvenProjReferenceIdeal.main_arg0) = m ((c.tc : Thread Cert.EvenProjReferenceIdeal.nD Cert.EvenProjReferenceIdeal.τ).loc Cert.EvenProjReferenceIdeal.main_arg0)
      ∧ r.2.mem ((c.tc : Thread Cert.EvenProjReferenceIdeal.nD Cert.EvenProjReferenceIdeal.τ).loc Cert.EvenProjReferenceIdeal.main_arg1) = m ((c.tc : Thread Cert.EvenProjReferenceIdeal.nD Cert.EvenProjReferenceIdeal.τ).loc Cert.EvenProjReferenceIdeal.main_arg1)
      ∧ r.2.mem ((c.tc : Thread Cert.EvenProjReferenceIdeal.nD Cert.EvenProjReferenceIdeal.τ).loc Cert.EvenProjReferenceIdeal.main_arg2) = m ((c.tc : Thread Cert.EvenProjReferenceIdeal.nD Cert.EvenProjReferenceIdeal.τ).loc Cert.EvenProjReferenceIdeal.main_arg2))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3))
      ∧ r.2.sem = fun _ => 0)

def quiescent_EvenOutReferenceIdeal [hEvenOutReferenceIdeal : Cert.EvenOutReferenceIdeal.Facts] : Prop :=
  ∀ (m : (ℓ : Loc Cert.EvenOutReferenceIdeal.nD Cert.EvenOutReferenceIdeal.τ Cert.EvenOutReferenceIdeal.sig) → Buf (Elt Ideal) ℓ) (g : Dev Cert.EvenOutReferenceIdeal.nD → PrngReg), Pre_EvenOutReferenceIdeal m →
    θ_run (Cert.EvenOutReferenceIdeal.defs (F := Ideal)) (onTc (τ := Cert.EvenOutReferenceIdeal.τ) (Cert.EvenOutReferenceIdeal.main (F := Ideal))) ⟨m, fun _ => 0, g⟩ (fun r => (∀ c : Dev Cert.EvenOutReferenceIdeal.nD,
      r.2.mem ((c.tc : Thread Cert.EvenOutReferenceIdeal.nD Cert.EvenOutReferenceIdeal.τ).loc Cert.EvenOutReferenceIdeal.main_arg0) = m ((c.tc : Thread Cert.EvenOutReferenceIdeal.nD Cert.EvenOutReferenceIdeal.τ).loc Cert.EvenOutReferenceIdeal.main_arg0)
      ∧ r.2.mem ((c.tc : Thread Cert.EvenOutReferenceIdeal.nD Cert.EvenOutReferenceIdeal.τ).loc Cert.EvenOutReferenceIdeal.main_arg1) = m ((c.tc : Thread Cert.EvenOutReferenceIdeal.nD Cert.EvenOutReferenceIdeal.τ).loc Cert.EvenOutReferenceIdeal.main_arg1)
      ∧ r.2.mem ((c.tc : Thread Cert.EvenOutReferenceIdeal.nD Cert.EvenOutReferenceIdeal.τ).loc Cert.EvenOutReferenceIdeal.main_arg2) = m ((c.tc : Thread Cert.EvenOutReferenceIdeal.nD Cert.EvenOutReferenceIdeal.τ).loc Cert.EvenOutReferenceIdeal.main_arg2)
      ∧ r.2.mem ((c.tc : Thread Cert.EvenOutReferenceIdeal.nD Cert.EvenOutReferenceIdeal.τ).loc Cert.EvenOutReferenceIdeal.main_arg3) = m ((c.tc : Thread Cert.EvenOutReferenceIdeal.nD Cert.EvenOutReferenceIdeal.τ).loc Cert.EvenOutReferenceIdeal.main_arg3))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3)
      ∧ r.2.mem ((c.tc : Thread Cert.OddOut.nD Cert.OddOut.τ).loc Cert.OddOut.main_arg4) = m ((c.tc : Thread Cert.OddOut.nD Cert.OddOut.τ).loc Cert.OddOut.main_arg4)
      ∧ r.2.mem ((c.tc : Thread Cert.OddOut.nD Cert.OddOut.τ).loc Cert.OddOut.main_arg5) = m ((c.tc : Thread Cert.OddOut.nD Cert.OddOut.τ).loc Cert.OddOut.main_arg5))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
      ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5))
      ∧ r.2.sem = fun _ => 0)

def quiescent_OddOutReferenceIdeal [hOddOutReferenceIdeal : Cert.OddOutReferenceIdeal.Facts] : Prop :=
  ∀ (m : (ℓ : Loc Cert.OddOutReferenceIdeal.nD Cert.OddOutReferenceIdeal.τ Cert.OddOutReferenceIdeal.sig) → Buf (Elt Ideal) ℓ) (g : Dev Cert.OddOutReferenceIdeal.nD → PrngReg), Pre_OddOutReferenceIdeal m →
    θ_run (Cert.OddOutReferenceIdeal.defs (F := Ideal)) (onTc (τ := Cert.OddOutReferenceIdeal.τ) (Cert.OddOutReferenceIdeal.main (F := Ideal))) ⟨m, fun _ => 0, g⟩ (fun r => (∀ c : Dev Cert.OddOutReferenceIdeal.nD,
      r.2.mem ((c.tc : Thread Cert.OddOutReferenceIdeal.nD Cert.OddOutReferenceIdeal.τ).loc Cert.OddOutReferenceIdeal.main_arg0) = m ((c.tc : Thread Cert.OddOutReferenceIdeal.nD Cert.OddOutReferenceIdeal.τ).loc Cert.OddOutReferenceIdeal.main_arg0)
      ∧ r.2.mem ((c.tc : Thread Cert.OddOutReferenceIdeal.nD Cert.OddOutReferenceIdeal.τ).loc Cert.OddOutReferenceIdeal.main_arg1) = m ((c.tc : Thread Cert.OddOutReferenceIdeal.nD Cert.OddOutReferenceIdeal.τ).loc Cert.OddOutReferenceIdeal.main_arg1)
      ∧ r.2.mem ((c.tc : Thread Cert.OddOutReferenceIdeal.nD Cert.OddOutReferenceIdeal.τ).loc Cert.OddOutReferenceIdeal.main_arg2) = m ((c.tc : Thread Cert.OddOutReferenceIdeal.nD Cert.OddOutReferenceIdeal.τ).loc Cert.OddOutReferenceIdeal.main_arg2)
      ∧ r.2.mem ((c.tc : Thread Cert.OddOutReferenceIdeal.nD Cert.OddOutReferenceIdeal.τ).loc Cert.OddOutReferenceIdeal.main_arg3) = m ((c.tc : Thread Cert.OddOutReferenceIdeal.nD Cert.OddOutReferenceIdeal.τ).loc Cert.OddOutReferenceIdeal.main_arg3)
      ∧ r.2.mem ((c.tc : Thread Cert.OddOutReferenceIdeal.nD Cert.OddOutReferenceIdeal.τ).loc Cert.OddOutReferenceIdeal.main_arg4) = m ((c.tc : Thread Cert.OddOutReferenceIdeal.nD Cert.OddOutReferenceIdeal.τ).loc Cert.OddOutReferenceIdeal.main_arg4)
      ∧ r.2.mem ((c.tc : Thread Cert.OddOutReferenceIdeal.nD Cert.OddOutReferenceIdeal.τ).loc Cert.OddOutReferenceIdeal.main_arg5) = m ((c.tc : Thread Cert.OddOutReferenceIdeal.nD Cert.OddOutReferenceIdeal.τ).loc Cert.OddOutReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_EvenProj_EvenProjIdeal : Prop :=
  True

def algebraic_EvenProjIdeal_EvenProjReferenceIdeal [hEvenProjIdeal : Cert.EvenProjIdeal.Facts] [hEvenProjReferenceIdeal : Cert.EvenProjReferenceIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg)
    (m' : (ℓ : Loc Cert.EvenProjReferenceIdeal.nD Cert.EvenProjReferenceIdeal.τ Cert.EvenProjReferenceIdeal.sig) → Buf (Elt Ideal) ℓ) (g' : Dev Cert.EvenProjReferenceIdeal.nD → PrngReg), Pre_EvenProjIdeal m →
    (∀ c : Dev Cert.EvenProjIdeal.nD,
      m' ((c.tc : Thread Cert.EvenProjReferenceIdeal.nD Cert.EvenProjReferenceIdeal.τ).loc Cert.EvenProjReferenceIdeal.main_arg0) = m ((c.tc : Thread Cert.EvenProjIdeal.nD Cert.EvenProjIdeal.τ).loc Cert.EvenProjIdeal.main_arg0)
      ∧ m' ((c.tc : Thread Cert.EvenProjReferenceIdeal.nD Cert.EvenProjReferenceIdeal.τ).loc Cert.EvenProjReferenceIdeal.main_arg1) = m ((c.tc : Thread Cert.EvenProjIdeal.nD Cert.EvenProjIdeal.τ).loc Cert.EvenProjIdeal.main_arg1)
      ∧ m' ((c.tc : Thread Cert.EvenProjReferenceIdeal.nD Cert.EvenProjReferenceIdeal.τ).loc Cert.EvenProjReferenceIdeal.main_arg2) = m ((c.tc : Thread Cert.EvenProjIdeal.nD Cert.EvenProjIdeal.τ).loc Cert.EvenProjIdeal.main_arg2)) →
    ∃ (v0 : (c : Dev Cert.EvenProjIdeal.nD) → Buf (Elt Ideal) ((c.tc : Thread Cert.EvenProjIdeal.nD Cert.EvenProjIdeal.τ).loc Cert.EvenProjIdeal.main_v12_0)) (v1 : (c : Dev Cert.EvenProjIdeal.nD) → Buf (Elt Ideal) ((c.tc : Thread Cert.EvenProjIdeal.nD Cert.EvenProjIdeal.τ).loc Cert.EvenProjIdeal.main_v12_1)) (v2 : (c : Dev Cert.EvenProjIdeal.nD) → Buf (Elt Ideal) ((c.tc : Thread Cert.EvenProjIdeal.nD Cert.EvenProjIdeal.τ).loc Cert.EvenProjIdeal.main_v12_2)) (v3 : (c : Dev Cert.EvenProjIdeal.nD) → Buf (Elt Ideal) ((c.tc : Thread Cert.EvenProjIdeal.nD Cert.EvenProjIdeal.τ).loc Cert.EvenProjIdeal.main_v12_3)) (v4 : (c : Dev Cert.EvenProjIdeal.nD) → Buf (Elt Ideal) ((c.tc : Thread Cert.EvenProjIdeal.nD Cert.EvenProjIdeal.τ).loc Cert.EvenProjIdeal.main_v12_4)) (v5 : (c : Dev Cert.EvenProjIdeal.nD) → Buf (Elt Ideal) ((c.tc : Thread Cert.EvenProjIdeal.nD Cert.EvenProjIdeal.τ).loc Cert.EvenProjIdeal.main_v12_5)),
      θ_run (Cert.EvenProjIdeal.defs (F := Ideal)) (onTc (τ := Cert.EvenProjIdeal.τ) (Cert.EvenProjIdeal.main (F := Ideal))) ⟨m, fun _ => 0, g⟩ (fun r => ∀ c : Dev Cert.EvenProjIdeal.nD,
          r.2.mem ((c.tc : Thread Cert.EvenProjIdeal.nD Cert.EvenProjIdeal.τ).loc Cert.EvenProjIdeal.main_v12_0) = v0 c
          ∧ r.2.mem ((c.tc : Thread Cert.EvenProjIdeal.nD Cert.EvenProjIdeal.τ).loc Cert.EvenProjIdeal.main_v12_1) = v1 c
          ∧ r.2.mem ((c.tc : Thread Cert.EvenProjIdeal.nD Cert.EvenProjIdeal.τ).loc Cert.EvenProjIdeal.main_v12_2) = v2 c
          ∧ r.2.mem ((c.tc : Thread Cert.EvenProjIdeal.nD Cert.EvenProjIdeal.τ).loc Cert.EvenProjIdeal.main_v12_3) = v3 c
          ∧ r.2.mem ((c.tc : Thread Cert.EvenProjIdeal.nD Cert.EvenProjIdeal.τ).loc Cert.EvenProjIdeal.main_v12_4) = v4 c
          ∧ r.2.mem ((c.tc : Thread Cert.EvenProjIdeal.nD Cert.EvenProjIdeal.τ).loc Cert.EvenProjIdeal.main_v12_5) = v5 c
          ∧ r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
          ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
          ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2))
      ∧ θ_run (Cert.EvenProjReferenceIdeal.defs (F := Ideal)) (onTc (τ := Cert.EvenProjReferenceIdeal.τ) (Cert.EvenProjReferenceIdeal.main (F := Ideal))) ⟨m', fun _ => 0, g'⟩ (fun r => ∀ c : Dev Cert.EvenProjReferenceIdeal.nD,
          r.2.mem ((c.tc : Thread Cert.EvenProjReferenceIdeal.nD Cert.EvenProjReferenceIdeal.τ).loc Cert.EvenProjReferenceIdeal.main_v15) = v0 c
          ∧ r.2.mem ((c.tc : Thread Cert.EvenProjReferenceIdeal.nD Cert.EvenProjReferenceIdeal.τ).loc Cert.EvenProjReferenceIdeal.main_v16) = v1 c
          ∧ r.2.mem ((c.tc : Thread Cert.EvenProjReferenceIdeal.nD Cert.EvenProjReferenceIdeal.τ).loc Cert.EvenProjReferenceIdeal.main_v17) = v2 c
          ∧ r.2.mem ((c.tc : Thread Cert.EvenProjReferenceIdeal.nD Cert.EvenProjReferenceIdeal.τ).loc Cert.EvenProjReferenceIdeal.main_v18) = v3 c
          ∧ r.2.mem ((c.tc : Thread Cert.EvenProjReferenceIdeal.nD Cert.EvenProjReferenceIdeal.τ).loc Cert.EvenProjReferenceIdeal.main_v19) = v4 c
          ∧ r.2.mem ((c.tc : Thread Cert.EvenProjReferenceIdeal.nD Cert.EvenProjReferenceIdeal.τ).loc Cert.EvenProjReferenceIdeal.main_v20) = v5 c
          ∧ r.2.mem ((c.tc : Thread Cert.EvenProjReferenceIdeal.nD Cert.EvenProjReferenceIdeal.τ).loc Cert.EvenProjReferenceIdeal.main_arg0) = m' ((c.tc : Thread Cert.EvenProjReferenceIdeal.nD Cert.EvenProjReferenceIdeal.τ).loc Cert.EvenProjReferenceIdeal.main_arg0)
          ∧ r.2.mem ((c.tc : Thread Cert.EvenProjReferenceIdeal.nD Cert.EvenProjReferenceIdeal.τ).loc Cert.EvenProjReferenceIdeal.main_arg1) = m' ((c.tc : Thread Cert.EvenProjReferenceIdeal.nD Cert.EvenProjReferenceIdeal.τ).loc Cert.EvenProjReferenceIdeal.main_arg1)
          ∧ r.2.mem ((c.tc : Thread Cert.EvenProjReferenceIdeal.nD Cert.EvenProjReferenceIdeal.τ).loc Cert.EvenProjReferenceIdeal.main_arg2) = m' ((c.tc : Thread Cert.EvenProjReferenceIdeal.nD Cert.EvenProjReferenceIdeal.τ).loc Cert.EvenProjReferenceIdeal.main_arg2))

def preserves_EvenOut_EvenOutIdeal : Prop :=
  True

def algebraic_EvenOutIdeal_EvenOutReferenceIdeal [hEvenOutIdeal : Cert.EvenOutIdeal.Facts] [hEvenOutReferenceIdeal : Cert.EvenOutReferenceIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutReferenceIdeal.nD Cert.EvenOutReferenceIdeal.τ Cert.EvenOutReferenceIdeal.sig) → Buf (Elt Ideal) ℓ) (g' : Dev Cert.EvenOutReferenceIdeal.nD → PrngReg), Pre_EvenOutIdeal m →
    (∀ c : Dev Cert.EvenOutIdeal.nD,
      m' ((c.tc : Thread Cert.EvenOutReferenceIdeal.nD Cert.EvenOutReferenceIdeal.τ).loc Cert.EvenOutReferenceIdeal.main_arg0) = m ((c.tc : Thread Cert.EvenOutIdeal.nD Cert.EvenOutIdeal.τ).loc Cert.EvenOutIdeal.main_arg0)
      ∧ m' ((c.tc : Thread Cert.EvenOutReferenceIdeal.nD Cert.EvenOutReferenceIdeal.τ).loc Cert.EvenOutReferenceIdeal.main_arg1) = m ((c.tc : Thread Cert.EvenOutIdeal.nD Cert.EvenOutIdeal.τ).loc Cert.EvenOutIdeal.main_arg1)
      ∧ m' ((c.tc : Thread Cert.EvenOutReferenceIdeal.nD Cert.EvenOutReferenceIdeal.τ).loc Cert.EvenOutReferenceIdeal.main_arg2) = m ((c.tc : Thread Cert.EvenOutIdeal.nD Cert.EvenOutIdeal.τ).loc Cert.EvenOutIdeal.main_arg2)
      ∧ m' ((c.tc : Thread Cert.EvenOutReferenceIdeal.nD Cert.EvenOutReferenceIdeal.τ).loc Cert.EvenOutReferenceIdeal.main_arg3) = m ((c.tc : Thread Cert.EvenOutIdeal.nD Cert.EvenOutIdeal.τ).loc Cert.EvenOutIdeal.main_arg3)) →
    ∃ (v0 : (c : Dev Cert.EvenOutIdeal.nD) → Buf (Elt Ideal) ((c.tc : Thread Cert.EvenOutIdeal.nD Cert.EvenOutIdeal.τ).loc Cert.EvenOutIdeal.main_v6)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v6) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3))
      ∧ θ_run (Cert.EvenOutReferenceIdeal.defs (F := Ideal)) (onTc (τ := Cert.EvenOutReferenceIdeal.τ) (Cert.EvenOutReferenceIdeal.main (F := Ideal))) ⟨m', fun _ => 0, g'⟩ (fun r => ∀ c : Dev Cert.EvenOutReferenceIdeal.nD,
          r.2.mem ((c.tc : Thread Cert.EvenOutReferenceIdeal.nD Cert.EvenOutReferenceIdeal.τ).loc Cert.EvenOutReferenceIdeal.main_v2) = v0 c
          ∧ r.2.mem ((c.tc : Thread Cert.EvenOutReferenceIdeal.nD Cert.EvenOutReferenceIdeal.τ).loc Cert.EvenOutReferenceIdeal.main_arg0) = m' ((c.tc : Thread Cert.EvenOutReferenceIdeal.nD Cert.EvenOutReferenceIdeal.τ).loc Cert.EvenOutReferenceIdeal.main_arg0)
          ∧ r.2.mem ((c.tc : Thread Cert.EvenOutReferenceIdeal.nD Cert.EvenOutReferenceIdeal.τ).loc Cert.EvenOutReferenceIdeal.main_arg1) = m' ((c.tc : Thread Cert.EvenOutReferenceIdeal.nD Cert.EvenOutReferenceIdeal.τ).loc Cert.EvenOutReferenceIdeal.main_arg1)
          ∧ r.2.mem ((c.tc : Thread Cert.EvenOutReferenceIdeal.nD Cert.EvenOutReferenceIdeal.τ).loc Cert.EvenOutReferenceIdeal.main_arg2) = m' ((c.tc : Thread Cert.EvenOutReferenceIdeal.nD Cert.EvenOutReferenceIdeal.τ).loc Cert.EvenOutReferenceIdeal.main_arg2)
          ∧ r.2.mem ((c.tc : Thread Cert.EvenOutReferenceIdeal.nD Cert.EvenOutReferenceIdeal.τ).loc Cert.EvenOutReferenceIdeal.main_arg3) = m' ((c.tc : Thread Cert.EvenOutReferenceIdeal.nD Cert.EvenOutReferenceIdeal.τ).loc Cert.EvenOutReferenceIdeal.main_arg3))

def preserves_OddOut_OddOutIdeal : Prop :=
  True

def algebraic_OddOutIdeal_OddOutReferenceIdeal [hOddOutIdeal : Cert.OddOutIdeal.Facts] [hOddOutReferenceIdeal : Cert.OddOutReferenceIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutReferenceIdeal.nD Cert.OddOutReferenceIdeal.τ Cert.OddOutReferenceIdeal.sig) → Buf (Elt Ideal) ℓ) (g' : Dev Cert.OddOutReferenceIdeal.nD → PrngReg), Pre_OddOutIdeal m →
    (∀ c : Dev Cert.OddOutIdeal.nD,
      m' ((c.tc : Thread Cert.OddOutReferenceIdeal.nD Cert.OddOutReferenceIdeal.τ).loc Cert.OddOutReferenceIdeal.main_arg0) = m ((c.tc : Thread Cert.OddOutIdeal.nD Cert.OddOutIdeal.τ).loc Cert.OddOutIdeal.main_arg0)
      ∧ m' ((c.tc : Thread Cert.OddOutReferenceIdeal.nD Cert.OddOutReferenceIdeal.τ).loc Cert.OddOutReferenceIdeal.main_arg1) = m ((c.tc : Thread Cert.OddOutIdeal.nD Cert.OddOutIdeal.τ).loc Cert.OddOutIdeal.main_arg1)
      ∧ m' ((c.tc : Thread Cert.OddOutReferenceIdeal.nD Cert.OddOutReferenceIdeal.τ).loc Cert.OddOutReferenceIdeal.main_arg2) = m ((c.tc : Thread Cert.OddOutIdeal.nD Cert.OddOutIdeal.τ).loc Cert.OddOutIdeal.main_arg2)
      ∧ m' ((c.tc : Thread Cert.OddOutReferenceIdeal.nD Cert.OddOutReferenceIdeal.τ).loc Cert.OddOutReferenceIdeal.main_arg3) = m ((c.tc : Thread Cert.OddOutIdeal.nD Cert.OddOutIdeal.τ).loc Cert.OddOutIdeal.main_arg3)
      ∧ m' ((c.tc : Thread Cert.OddOutReferenceIdeal.nD Cert.OddOutReferenceIdeal.τ).loc Cert.OddOutReferenceIdeal.main_arg4) = m ((c.tc : Thread Cert.OddOutIdeal.nD Cert.OddOutIdeal.τ).loc Cert.OddOutIdeal.main_arg4)
      ∧ m' ((c.tc : Thread Cert.OddOutReferenceIdeal.nD Cert.OddOutReferenceIdeal.τ).loc Cert.OddOutReferenceIdeal.main_arg5) = m ((c.tc : Thread Cert.OddOutIdeal.nD Cert.OddOutIdeal.τ).loc Cert.OddOutIdeal.main_arg5)) →
    ∃ (v0 : (c : Dev Cert.OddOutIdeal.nD) → Buf (Elt Ideal) ((c.tc : Thread Cert.OddOutIdeal.nD Cert.OddOutIdeal.τ).loc Cert.OddOutIdeal.main_v4)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v4) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
          ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
          ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5))
      ∧ θ_run (Cert.OddOutReferenceIdeal.defs (F := Ideal)) (onTc (τ := Cert.OddOutReferenceIdeal.τ) (Cert.OddOutReferenceIdeal.main (F := Ideal))) ⟨m', fun _ => 0, g'⟩ (fun r => ∀ c : Dev Cert.OddOutReferenceIdeal.nD,
          r.2.mem ((c.tc : Thread Cert.OddOutReferenceIdeal.nD Cert.OddOutReferenceIdeal.τ).loc Cert.OddOutReferenceIdeal.main_v18) = v0 c
          ∧ r.2.mem ((c.tc : Thread Cert.OddOutReferenceIdeal.nD Cert.OddOutReferenceIdeal.τ).loc Cert.OddOutReferenceIdeal.main_arg0) = m' ((c.tc : Thread Cert.OddOutReferenceIdeal.nD Cert.OddOutReferenceIdeal.τ).loc Cert.OddOutReferenceIdeal.main_arg0)
          ∧ r.2.mem ((c.tc : Thread Cert.OddOutReferenceIdeal.nD Cert.OddOutReferenceIdeal.τ).loc Cert.OddOutReferenceIdeal.main_arg1) = m' ((c.tc : Thread Cert.OddOutReferenceIdeal.nD Cert.OddOutReferenceIdeal.τ).loc Cert.OddOutReferenceIdeal.main_arg1)
          ∧ r.2.mem ((c.tc : Thread Cert.OddOutReferenceIdeal.nD Cert.OddOutReferenceIdeal.τ).loc Cert.OddOutReferenceIdeal.main_arg2) = m' ((c.tc : Thread Cert.OddOutReferenceIdeal.nD Cert.OddOutReferenceIdeal.τ).loc Cert.OddOutReferenceIdeal.main_arg2)
          ∧ r.2.mem ((c.tc : Thread Cert.OddOutReferenceIdeal.nD Cert.OddOutReferenceIdeal.τ).loc Cert.OddOutReferenceIdeal.main_arg3) = m' ((c.tc : Thread Cert.OddOutReferenceIdeal.nD Cert.OddOutReferenceIdeal.τ).loc Cert.OddOutReferenceIdeal.main_arg3)
          ∧ r.2.mem ((c.tc : Thread Cert.OddOutReferenceIdeal.nD Cert.OddOutReferenceIdeal.τ).loc Cert.OddOutReferenceIdeal.main_arg4) = m' ((c.tc : Thread Cert.OddOutReferenceIdeal.nD Cert.OddOutReferenceIdeal.τ).loc Cert.OddOutReferenceIdeal.main_arg4)
          ∧ r.2.mem ((c.tc : Thread Cert.OddOutReferenceIdeal.nD Cert.OddOutReferenceIdeal.τ).loc Cert.OddOutReferenceIdeal.main_arg5) = m' ((c.tc : Thread Cert.OddOutReferenceIdeal.nD Cert.OddOutReferenceIdeal.τ).loc Cert.OddOutReferenceIdeal.main_arg5))

def Claim : Prop :=
  ∃ (hKernel : Cert.Kernel.Facts) (hKernelIdeal : Cert.KernelIdeal.Facts) (hReferenceIdeal : Cert.ReferenceIdeal.Facts) (hEvenProj : Cert.EvenProj.Facts) (hEvenProjIdeal : Cert.EvenProjIdeal.Facts) (hEvenProjReferenceIdeal : Cert.EvenProjReferenceIdeal.Facts) (hEvenOut : Cert.EvenOut.Facts) (hEvenOutIdeal : Cert.EvenOutIdeal.Facts) (hEvenOutReferenceIdeal : Cert.EvenOutReferenceIdeal.Facts) (hOddOut : Cert.OddOut.Facts) (hOddOutIdeal : Cert.OddOutIdeal.Facts) (hOddOutReferenceIdeal : Cert.OddOutReferenceIdeal.Facts),
    quiescent_Kernel (hKernel := hKernel)
    ∧ quiescent_KernelIdeal (hKernelIdeal := hKernelIdeal)
    ∧ quiescent_ReferenceIdeal (hReferenceIdeal := hReferenceIdeal)
    ∧ quiescent_EvenProj (hEvenProj := hEvenProj)
    ∧ quiescent_EvenProjIdeal (hEvenProjIdeal := hEvenProjIdeal)
    ∧ quiescent_EvenProjReferenceIdeal (hEvenProjReferenceIdeal := hEvenProjReferenceIdeal)
    ∧ quiescent_EvenOut (hEvenOut := hEvenOut)
    ∧ quiescent_EvenOutIdeal (hEvenOutIdeal := hEvenOutIdeal)
    ∧ quiescent_EvenOutReferenceIdeal (hEvenOutReferenceIdeal := hEvenOutReferenceIdeal)
    ∧ quiescent_OddOut (hOddOut := hOddOut)
    ∧ quiescent_OddOutIdeal (hOddOutIdeal := hOddOutIdeal)
    ∧ quiescent_OddOutReferenceIdeal (hOddOutReferenceIdeal := hOddOutReferenceIdeal)
    ∧ preserves_Kernel_KernelIdeal
    ∧ algebraic_KernelIdeal_ReferenceIdeal (hKernelIdeal := hKernelIdeal) (hReferenceIdeal := hReferenceIdeal)
    ∧ preserves_EvenProj_EvenProjIdeal
    ∧ algebraic_EvenProjIdeal_EvenProjReferenceIdeal (hEvenProjIdeal := hEvenProjIdeal) (hEvenProjReferenceIdeal := hEvenProjReferenceIdeal)
    ∧ preserves_EvenOut_EvenOutIdeal
    ∧ algebraic_EvenOutIdeal_EvenOutReferenceIdeal (hEvenOutIdeal := hEvenOutIdeal) (hEvenOutReferenceIdeal := hEvenOutReferenceIdeal)
    ∧ preserves_OddOut_OddOutIdeal
    ∧ algebraic_OddOutIdeal_OddOutReferenceIdeal (hOddOutIdeal := hOddOutIdeal) (hOddOutReferenceIdeal := hOddOutReferenceIdeal)
-- ==== Kernel.lean ====
abbrev S8x4096x1024 : Shape := ⟨3, ![8, 4096, 1024]⟩
abbrev S8x4096x4x64 : Shape := ⟨4, ![8, 4096, 4, 64]⟩
abbrev S8x4x4096x64 : Shape := ⟨4, ![8, 4, 4096, 64]⟩
abbrev S8x4096x48 : Shape := ⟨3, ![8, 4096, 48]⟩
abbrev S48 : Shape := ⟨1, ![48]⟩
abbrev S32768x16x64 : Shape := ⟨3, ![32768, 16, 64]⟩
abbrev S_ : Shape := ⟨0, ![]⟩
abbrev S16x64x32768 : Shape := ⟨3, ![16, 64, 32768]⟩
abbrev S8x4096x4x128 : Shape := ⟨4, ![8, 4096, 4, 128]⟩
abbrev S32768x512 : Shape := ⟨2, ![32768, 512]⟩
abbrev S8x4096x4x1 : Shape := ⟨4, ![8, 4096, 4, 1]⟩
abbrev S8x4096x4x15 : Shape := ⟨4, ![8, 4096, 4, 15]⟩
abbrev S8x4096x4x16 : Shape := ⟨4, ![8, 4096, 4, 16]⟩
abbrev S8x4096x4x80 : Shape := ⟨4, ![8, 4096, 4, 80]⟩
abbrev S4x80x8x4096 : Shape := ⟨4, ![4, 80, 8, 4096]⟩
abbrev S4x80x32768 : Shape := ⟨3, ![4, 80, 32768]⟩
abbrev S8x4x64x4096 : Shape := ⟨4, ![8, 4, 64, 4096]⟩
abbrev S32768x4x4x3 : Shape := ⟨4, ![32768, 4, 4, 3]⟩
abbrev S4x3x4x32768 : Shape := ⟨4, ![4, 3, 4, 32768]⟩
abbrev S4x3x8x32768 : Shape := ⟨4, ![4, 3, 8, 32768]⟩
abbrev S4x4x3 : Shape := ⟨3, ![4, 4, 3]⟩
abbrev S4x3x4 : Shape := ⟨3, ![4, 3, 4]⟩
abbrev S4x3x8 : Shape := ⟨3, ![4, 3, 8]⟩
abbrev S4x3x8x1 : Shape := ⟨4, ![4, 3, 8, 1]⟩
abbrev S4x64x512 : Shape := ⟨3, ![4, 64, 512]⟩
abbrev S4096x128 : Shape := ⟨2, ![4096, 128]⟩
abbrev S1x80x4096 : Shape := ⟨3, ![1, 80, 4096]⟩
abbrev S1x1x64x512 : Shape := ⟨4, ![1, 1, 64, 512]⟩
abbrev S1x1x8x512 : Shape := ⟨4, ![1, 1, 8, 512]⟩
abbrev S1x1x8x1 : Shape := ⟨4, ![1, 1, 8, 1]⟩
abbrev S128x1024 : Shape := ⟨2, ![128, 1024]⟩
abbrev S512x1024 : Shape := ⟨2, ![512, 1024]⟩
abbrev S1x1024 : Shape := ⟨2, ![1, 1024]⟩
abbrev S80x1024 : Shape := ⟨2, ![80, 1024]⟩
abbrev S1x64x256 : Shape := ⟨3, ![1, 64, 256]⟩
abbrev S64x256 : Shape := ⟨2, ![64, 256]⟩
abbrev S1x1x64x256 : Shape := ⟨4, ![1, 1, 64, 256]⟩
abbrev S256x128 : Shape := ⟨2, ![256, 128]⟩
abbrev S256x1024 : Shape := ⟨2, ![256, 1024]⟩
abbrev S1024 : Shape := ⟨1, ![1024]⟩
abbrev S512x128 : Shape := ⟨2, ![512, 128]⟩
abbrev S1x80x256 : Shape := ⟨3, ![1, 80, 256]⟩
abbrev S80x256 : Shape := ⟨2, ![80, 256]⟩
abbrev S1x80x512 : Shape := ⟨3, ![1, 80, 512]⟩
abbrev S80x512 : Shape := ⟨2, ![80, 512]⟩
abbrev S8x512 : Shape := ⟨2, ![8, 512]⟩
abbrev S8x1 : Shape := ⟨2, ![8, 1]⟩
abbrev S1x256 : Shape := ⟨2, ![1, 256]⟩

abbrev nBuf : Space → Nat
  | .hbm => 73
  | .vmem => 24
  | .smem => 0
  | _ => 0

abbrev bufTy : (tb : Table) → Fin (tcTables nBuf tb) → BufTy
  | .hbm, ⟨0, _⟩ => ⟨S8x4096x1024, .f32⟩
  | .hbm, ⟨1, _⟩ => ⟨S8x4096x4x64, .f32⟩
  | .hbm, ⟨2, _⟩ => ⟨S8x4096x4x64, .f32⟩
  | .hbm, ⟨3, _⟩ => ⟨S8x4x4096x64, .i32⟩
  | .hbm, ⟨4, _⟩ => ⟨S8x4096x48, .f32⟩
  | .hbm, ⟨5, _⟩ => ⟨S48, .f32⟩
  | .hbm, ⟨6, _⟩ => ⟨S32768x16x64, .f32⟩
  | .hbm, ⟨7, _⟩ => ⟨S_, .f32⟩
  | .hbm, ⟨8, _⟩ => ⟨S32768x16x64, .f32⟩
  | .hbm, ⟨9, _⟩ => ⟨S32768x16x64, .f32⟩
  | .hbm, ⟨10, _⟩ => ⟨S16x64x32768, .f32⟩
  | .hbm, ⟨11, _⟩ => ⟨S16x64x32768, .bf16⟩
  | .hbm, ⟨12, _⟩ => ⟨S8x4096x4x64, .i32⟩
  | .hbm, ⟨13, _⟩ => ⟨S_, .i32⟩
  | .hbm, ⟨14, _⟩ => ⟨S_, .i32⟩
  | .hbm, ⟨15, _⟩ => ⟨S8x4096x4x64, .i32⟩
  | .hbm, ⟨16, _⟩ => ⟨S8x4096x4x64, .i32⟩
  | .hbm, ⟨17, _⟩ => ⟨S8x4096x4x64, .i32⟩
  | .hbm, ⟨18, _⟩ => ⟨S_, .i32⟩
  | .hbm, ⟨19, _⟩ => ⟨S8x4096x4x64, .i32⟩
  | .hbm, ⟨20, _⟩ => ⟨S8x4096x4x64, .i1⟩
  | .hbm, ⟨21, _⟩ => ⟨S8x4096x4x64, .i32⟩
  | .hbm, ⟨22, _⟩ => ⟨S8x4096x4x64, .i32⟩
  | .hbm, ⟨23, _⟩ => ⟨S_, .i32⟩
  | .hbm, ⟨24, _⟩ => ⟨S8x4096x4x64, .i32⟩
  | .hbm, ⟨25, _⟩ => ⟨S8x4096x4x64, .i1⟩
  | .hbm, ⟨26, _⟩ => ⟨S8x4096x4x64, .i1⟩
  | .hbm, ⟨27, _⟩ => ⟨S_, .i32⟩
  | .hbm, ⟨28, _⟩ => ⟨S8x4096x4x64, .i32⟩
  | .hbm, ⟨29, _⟩ => ⟨S8x4096x4x64, .i32⟩
  | .hbm, ⟨30, _⟩ => ⟨S8x4096x4x64, .i32⟩
  | .hbm, ⟨31, _⟩ => ⟨S8x4096x4x64, .i32⟩
  | .hbm, ⟨32, _⟩ => ⟨S8x4096x4x64, .i1⟩
  | .hbm, ⟨33, _⟩ => ⟨S_, .f32⟩
  | .hbm, ⟨34, _⟩ => ⟨S_, .f32⟩
  | .hbm, ⟨35, _⟩ => ⟨S8x4096x4x64, .f32⟩
  | .hbm, ⟨36, _⟩ => ⟨S8x4096x4x64, .f32⟩
  | .hbm, ⟨37, _⟩ => ⟨S8x4096x4x64, .f32⟩
  | .hbm, ⟨38, _⟩ => ⟨S8x4096x4x64, .f32⟩
  | .hbm, ⟨39, _⟩ => ⟨S8x4096x4x128, .f32⟩
  | .hbm, ⟨40, _⟩ => ⟨S32768x512, .f32⟩
  | .hbm, ⟨41, _⟩ => ⟨S32768x512, .bf16⟩
  | .hbm, ⟨42, _⟩ => ⟨S_, .f32⟩
  | .hbm, ⟨43, _⟩ => ⟨S8x4096x4x1, .f32⟩
  | .hbm, ⟨44, _⟩ => ⟨S_, .f32⟩
  | .hbm, ⟨45, _⟩ => ⟨S8x4096x4x15, .f32⟩
  | .hbm, ⟨46, _⟩ => ⟨S8x4096x4x16, .f32⟩
  | .hbm, ⟨47, _⟩ => ⟨S8x4096x4x80, .f32⟩
  | .hbm, ⟨48, _⟩ => ⟨S4x80x8x4096, .f32⟩
  | .hbm, ⟨49, _⟩ => ⟨S4x80x32768, .f32⟩
  | .hbm, ⟨50, _⟩ => ⟨S4x80x32768, .bf16⟩
  | .hbm, ⟨51, _⟩ => ⟨S_, .i32⟩
  | .hbm, ⟨52, _⟩ => ⟨S8x4x4096x64, .i32⟩
  | .hbm, ⟨53, _⟩ => ⟨S8x4x4096x64, .i1⟩
  | .hbm, ⟨54, _⟩ => ⟨S_, .f32⟩
  | .hbm, ⟨55, _⟩ => ⟨S_, .f32⟩
  | .hbm, ⟨56, _⟩ => ⟨S8x4x4096x64, .f32⟩
  | .hbm, ⟨57, _⟩ => ⟨S8x4x4096x64, .f32⟩
  | .hbm, ⟨58, _⟩ => ⟨S8x4x4096x64, .f32⟩
  | .hbm, ⟨59, _⟩ => ⟨S8x4x64x4096, .f32⟩
  | .hbm, ⟨60, _⟩ => ⟨S8x4x64x4096, .bf16⟩
  | .hbm, ⟨61, _⟩ => ⟨S32768x4x4x3, .f32⟩
  | .hbm, ⟨62, _⟩ => ⟨S4x3x4x32768, .f32⟩
  | .hbm, ⟨63, _⟩ => ⟨S_, .i32⟩
  | .hbm, ⟨64, _⟩ => ⟨S_, .f32⟩
  | .hbm, ⟨65, _⟩ => ⟨S4x3x8x32768, .f32⟩
  | .hbm, ⟨66, _⟩ => ⟨S4x4x3, .f32⟩
  | .hbm, ⟨67, _⟩ => ⟨S4x3x4, .f32⟩
  | .hbm, ⟨68, _⟩ => ⟨S_, .i32⟩
  | .hbm, ⟨69, _⟩ => ⟨S_, .f32⟩
  | .hbm, ⟨70, _⟩ => ⟨S4x3x8, .f32⟩
  | .hbm, ⟨71, _⟩ => ⟨S4x3x8x1, .f32⟩
  | .hbm, ⟨72, _⟩ => ⟨S16x64x32768, .bf16⟩
  | .local _ .vmem, ⟨0, _⟩ => ⟨S4x64x512, .bf16⟩
  | .local _ .vmem, ⟨1, _⟩ => ⟨S4x64x512, .bf16⟩
  | .local _ .vmem, ⟨2, _⟩ => ⟨S4096x128, .bf16⟩
  | .local _ .vmem, ⟨3, _⟩ => ⟨S4096x128, .bf16⟩
  | .local _ .vmem, ⟨4, _⟩ => ⟨S1x80x4096, .bf16⟩
  | .local _ .vmem, ⟨5, _⟩ => ⟨S1x80x4096, .bf16⟩
  | .local _ .vmem, ⟨6, _⟩ => ⟨S1x1x64x512, .bf16⟩
  | .local _ .vmem, ⟨7, _⟩ => ⟨S1x1x64x512, .bf16⟩
  | .local _ .vmem, ⟨8, _⟩ => ⟨S1x1x8x512, .f32⟩
  | .local _ .vmem, ⟨9, _⟩ => ⟨S1x1x8x512, .f32⟩
  | .local _ .vmem, ⟨10, _⟩ => ⟨S1x1x8x1, .f32⟩
  | .local _ .vmem, ⟨11, _⟩ => ⟨S1x1x8x1, .f32⟩
  | .local _ .vmem, ⟨12, _⟩ => ⟨S4x64x512, .bf16⟩
  | .local _ .vmem, ⟨13, _⟩ => ⟨S4x64x512, .bf16⟩
  | .local _ .vmem, ⟨14, _⟩ => ⟨S128x1024, .bf16⟩
  | .local _ .vmem, ⟨15, _⟩ => ⟨S128x1024, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S80x1024, .f32⟩
  | .local _ .vmem, ⟨23, _⟩ => ⟨S80x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst_0 : Ref sig .tc := ⟨.hbm, 33, rfl⟩
abbrev main_cst_1 : Ref sig .tc := ⟨.hbm, 34, rfl⟩
abbrev main_call1_v0 : Ref sig .tc := ⟨.hbm, 35, rfl⟩
abbrev main_call1_v1 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_cst_3 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c_4 : Ref sig .tc := ⟨.hbm, 51, rfl⟩
abbrev main_v21 : Ref sig .tc := ⟨.hbm, 52, rfl⟩
abbrev main_v22 : Ref sig .tc := ⟨.hbm, 53, rfl⟩
abbrev main_cst_5 : Ref sig .tc := ⟨.hbm, 54, rfl⟩
abbrev main_cst_6 : Ref sig .tc := ⟨.hbm, 55, rfl⟩
abbrev main_call2_v0 : Ref sig .tc := ⟨.hbm, 56, rfl⟩
abbrev main_call2_v1 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_c_7 : Ref sig .tc := ⟨.hbm, 63, rfl⟩
abbrev main_call3_v0 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_c_8 : Ref sig .tc := ⟨.hbm, 68, rfl⟩
abbrev main_call4_v0 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 8], ![false, false, false]⟩

def k0_mult1 (i : grid0.Coords) : BitVec 32 :=
  let arg2 : BitVec 32 := BitVec.ofNat 32 (i 2).val
  let c512_i32_115 : BitVec 32 := 512#32
  let v145 : BitVec 32 := Scalar.muli arg2 c512_i32_115
  v145
def k0_off1 (i : grid0.Coords) : Fin 2 → Nat :=
  let arg2 : BitVec 32 := BitVec.ofNat 32 (i 2).val
  let c512_i32_115 : BitVec 32 := 512#32
  let v145 : BitVec 32 := Scalar.muli arg2 c512_i32_115
  let v146 : BitVec 32 := v145
  let v147 : Index := Scalar.indexCast v146
  let c0_116 : Index := 0#32
  ![v147.toNat, 0]
def k0_mult2 (i : grid0.Coords) : BitVec 32 :=
  let arg2 : BitVec 32 := BitVec.ofNat 32 (i 2).val
  let c512_i32_126 : BitVec 32 := 512#32
  let v172 : BitVec 32 := Scalar.muli arg2 c512_i32_126
  v172
def k0_off2 (i : grid0.Coords) : Fin 2 → Nat :=
  let arg2 : BitVec 32 := BitVec.ofNat 32 (i 2).val
  let c512_i32_126 : BitVec 32 := 512#32
  let v172 : BitVec 32 := Scalar.muli arg2 c512_i32_126
  let v173 : BitVec 32 := v172
  let v174 : Index := Scalar.indexCast v173
  let c0_127 : Index := 0#32
  ![v174.toNat, 0]
def k0_mult3 (i : grid0.Coords) : BitVec 32 :=
  let arg2 : BitVec 32 := BitVec.ofNat 32 (i 2).val
  let c512_i32_138 : BitVec 32 := 512#32
  let v199 : BitVec 32 := Scalar.muli arg2 c512_i32_138
  v199
def k0_off3 (i : grid0.Coords) : Fin 3 → Nat :=
  let c0_147 : Index := 0#32
  let c0_148 : Index := 0#32
  let arg2 : BitVec 32 := BitVec.ofNat 32 (i 2).val
  let c512_i32_138 : BitVec 32 := 512#32
  let v199 : BitVec 32 := Scalar.muli arg2 c512_i32_138
  let v200 : BitVec 32 := v199
  let v214 : Index := Scalar.indexCast v200
  ![0, 0, v214.toNat]
@[reducible] def k0_t1_loop (i : grid0.Coords) : Scf.Loop 32 :=
  let c0_i32_155 : BitVec 32 := 0#32
  let arg2 : BitVec 32 := BitVec.ofNat 32 (i 2).val
  let v225 : BitVec 32 := Scalar.subi arg2 c0_i32_155
  let c1_i32 : BitVec 32 := 1#32
  let v227 : BitVec 32 := Scalar.divsi v225 c1_i32
  let v228 : BitVec 32 := Scalar.muli v227 c1_i32
  let v229 : BitVec 32 := Scalar.addi c0_i32_155 v228
  let c1_i32_156 : BitVec 32 := 1#32
  ⟨c0_i32_155, v229, c1_i32_156⟩
def k0_mult4 (i : grid0.Coords) (k0_t1 : Fin (k0_t1_loop i).trips) : BitVec 32 :=
  let c0_i32_155 : BitVec 32 := 0#32
  let c1_i32_156 : BitVec 32 := 1#32
  let arg20 : BitVec 32 := Scf.iv c0_i32_155 c1_i32_156 k0_t1
  let c512_i32_232 : BitVec 32 := 512#32
  let v378 : BitVec 32 := Scalar.muli arg20 c512_i32_232
  v378
def k0_off4 (i : grid0.Coords) (k0_t1 : Fin (k0_t1_loop i).trips) : Fin 2 → Nat :=
  let c0_i32_155 : BitVec 32 := 0#32
  let c1_i32_156 : BitVec 32 := 1#32
  let arg20 : BitVec 32 := Scf.iv c0_i32_155 c1_i32_156 k0_t1
  let c512_i32_232 : BitVec 32 := 512#32
  let v378 : BitVec 32 := Scalar.muli arg20 c512_i32_232
  let v379 : BitVec 32 := v378
  let v380 : Index := Scalar.indexCast v379
  let c0_233 : Index := 0#32
  ![v380.toNat, 0]
def k0_mult5 (i : grid0.Coords) (k0_t1 : Fin (k0_t1_loop i).trips) : BitVec 32 :=
  let c0_i32_155 : BitVec 32 := 0#32
  let c1_i32_156 : BitVec 32 := 1#32
  let arg20 : BitVec 32 := Scf.iv c0_i32_155 c1_i32_156 k0_t1
  let c0_i32_242 : BitVec 32 := 0#32
  let v393 : BitVec 1 := Scalar.cmpi .eq arg20 c0_i32_242
  let arg2 : BitVec 32 := BitVec.ofNat 32 (i 2).val
  let c1_i32_243 : BitVec 32 := 1#32
  let v394 : BitVec 32 := Scalar.subi arg20 c1_i32_243
  let v395 : BitVec 32 := Scalar.select v393 arg2 v394
  let c512_i32_244 : BitVec 32 := 512#32
  let v396 : BitVec 32 := Scalar.muli v395 c512_i32_244
  v396
def k0_off5 (i : grid0.Coords) (k0_t1 : Fin (k0_t1_loop i).trips) : Fin 3 → Nat :=
  let c0_253 : Index := 0#32
  let c0_254 : Index := 0#32
  let c0_i32_155 : BitVec 32 := 0#32
  let c1_i32_156 : BitVec 32 := 1#32
  let arg20 : BitVec 32 := Scf.iv c0_i32_155 c1_i32_156 k0_t1
  let c0_i32_242 : BitVec 32 := 0#32
  let v393 : BitVec 1 := Scalar.cmpi .eq arg20 c0_i32_242
  let arg2 : BitVec 32 := BitVec.ofNat 32 (i 2).val
  let c1_i32_243 : BitVec 32 := 1#32
  let v394 : BitVec 32 := Scalar.subi arg20 c1_i32_243
  let v395 : BitVec 32 := Scalar.select v393 arg2 v394
  let c512_i32_244 : BitVec 32 := 512#32
  let v396 : BitVec 32 := Scalar.muli v395 c512_i32_244
  let v397 : BitVec 32 := v396
  let v411 : Index := Scalar.indexCast v397
  ![0, 0, v411.toNat]
def k0_mult6 (i : grid0.Coords) (k0_t1 : Fin (k0_t1_loop i).trips) : BitVec 32 :=
  let c0_i32_155 : BitVec 32 := 0#32
  let c1_i32_156 : BitVec 32 := 1#32
  let arg20 : BitVec 32 := Scf.iv c0_i32_155 c1_i32_156 k0_t1
  let c512_i32_260 : BitVec 32 := 512#32
  let v422 : BitVec 32 := Scalar.muli arg20 c512_i32_260
  v422
def k0_mult7 (i : grid0.Coords) (k0_t1 : Fin (k0_t1_loop i).trips) : BitVec 32 :=
  let c0_i32_155 : BitVec 32 := 0#32
  let c1_i32_156 : BitVec 32 := 1#32
  let arg20 : BitVec 32 := Scf.iv c0_i32_155 c1_i32_156 k0_t1
  let c512_i32_270 : BitVec 32 := 512#32
  let v437 : BitVec 32 := Scalar.muli arg20 c512_i32_270
  v437
def k0_off6 (i : grid0.Coords) (k0_t1 : Fin (k0_t1_loop i).trips) : Fin 3 → Nat :=
  let c0_279 : Index := 0#32
  let c0_280 : Index := 0#32
  let c0_i32_155 : BitVec 32 := 0#32
  let c1_i32_156 : BitVec 32 := 1#32
  let arg20 : BitVec 32 := Scf.iv c0_i32_155 c1_i32_156 k0_t1
  let c512_i32_270 : BitVec 32 := 512#32
  let v437 : BitVec 32 := Scalar.muli arg20 c512_i32_270
  let v438 : BitVec 32 := v437
  let v452 : Index := Scalar.indexCast v438
  ![0, 0, v452.toNat]
@[reducible] def k0_t2_loop (i : grid0.Coords) : Scf.Loop 32 :=
  let c0_i32_155 : BitVec 32 := 0#32
  let arg2 : BitVec 32 := BitVec.ofNat 32 (i 2).val
  let v225 : BitVec 32 := Scalar.subi arg2 c0_i32_155
  let c1_i32 : BitVec 32 := 1#32
  let v227 : BitVec 32 := Scalar.divsi v225 c1_i32
  let v228 : BitVec 32 := Scalar.muli v227 c1_i32
  let v229 : BitVec 32 := Scalar.addi c0_i32_155 v228
  let v226 : BitVec 32 := Scalar.addi c0_i32_155 v225
  let c1_i32_157 : BitVec 32 := 1#32
  ⟨v229, v226, c1_i32_157⟩
def k0_mult8 (i : grid0.Coords) (k0_t2 : Fin (k0_t2_loop i).trips) : BitVec 32 :=
  let c0_i32_155 : BitVec 32 := 0#32
  let arg2 : BitVec 32 := BitVec.ofNat 32 (i 2).val
  let v225 : BitVec 32 := Scalar.subi arg2 c0_i32_155
  let c1_i32 : BitVec 32 := 1#32
  let v227 : BitVec 32 := Scalar.divsi v225 c1_i32
  let v228 : BitVec 32 := Scalar.muli v227 c1_i32
  let v229 : BitVec 32 := Scalar.addi c0_i32_155 v228
  let c1_i32_157 : BitVec 32 := 1#32
  let arg20 : BitVec 32 := Scf.iv v229 c1_i32_157 k0_t2
  let c512_i32_232 : BitVec 32 := 512#32
  let v378 : BitVec 32 := Scalar.muli arg20 c512_i32_232
  v378
def k0_off7 (i : grid0.Coords) (k0_t2 : Fin (k0_t2_loop i).trips) : Fin 2 → Nat :=
  let c0_i32_155 : BitVec 32 := 0#32
  let arg2 : BitVec 32 := BitVec.ofNat 32 (i 2).val
  let v225 : BitVec 32 := Scalar.subi arg2 c0_i32_155
  let c1_i32 : BitVec 32 := 1#32
  let v227 : BitVec 32 := Scalar.divsi v225 c1_i32
  let v228 : BitVec 32 := Scalar.muli v227 c1_i32
  let v229 : BitVec 32 := Scalar.addi c0_i32_155 v228
  let c1_i32_157 : BitVec 32 := 1#32
  let arg20 : BitVec 32 := Scf.iv v229 c1_i32_157 k0_t2
  let c512_i32_232 : BitVec 32 := 512#32
  let v378 : BitVec 32 := Scalar.muli arg20 c512_i32_232
  let v379 : BitVec 32 := v378
  let v380 : Index := Scalar.indexCast v379
  let c0_233 : Index := 0#32
  ![v380.toNat, 0]
def k0_mult9 (i : grid0.Coords) (k0_t2 : Fin (k0_t2_loop i).trips) : BitVec 32 :=
  let c0_i32_155 : BitVec 32 := 0#32
  let arg2 : BitVec 32 := BitVec.ofNat 32 (i 2).val
  let v225 : BitVec 32 := Scalar.subi arg2 c0_i32_155
  let c1_i32 : BitVec 32 := 1#32
  let v227 : BitVec 32 := Scalar.divsi v225 c1_i32
  let v228 : BitVec 32 := Scalar.muli v227 c1_i32
  let v229 : BitVec 32 := Scalar.addi c0_i32_155 v228
  let c1_i32_157 : BitVec 32 := 1#32
  let arg20 : BitVec 32 := Scf.iv v229 c1_i32_157 k0_t2
  let c0_i32_242 : BitVec 32 := 0#32
  let v393 : BitVec 1 := Scalar.cmpi .eq arg20 c0_i32_242
  let c1_i32_243 : BitVec 32 := 1#32
  let v394 : BitVec 32 := Scalar.subi arg20 c1_i32_243
  let v395 : BitVec 32 := Scalar.select v393 arg2 v394
  let c512_i32_244 : BitVec 32 := 512#32
  let v396 : BitVec 32 := Scalar.muli v395 c512_i32_244
  v396
def k0_off8 (i : grid0.Coords) (k0_t2 : Fin (k0_t2_loop i).trips) : Fin 3 → Nat :=
  let c0_253 : Index := 0#32
  let c0_254 : Index := 0#32
  let c0_i32_155 : BitVec 32 := 0#32
  let arg2 : BitVec 32 := BitVec.ofNat 32 (i 2).val
  let v225 : BitVec 32 := Scalar.subi arg2 c0_i32_155
  let c1_i32 : BitVec 32 := 1#32
  let v227 : BitVec 32 := Scalar.divsi v225 c1_i32
  let v228 : BitVec 32 := Scalar.muli v227 c1_i32
  let v229 : BitVec 32 := Scalar.addi c0_i32_155 v228
  let c1_i32_157 : BitVec 32 := 1#32
  let arg20 : BitVec 32 := Scf.iv v229 c1_i32_157 k0_t2
  let c0_i32_242 : BitVec 32 := 0#32
  let v393 : BitVec 1 := Scalar.cmpi .eq arg20 c0_i32_242
  let c1_i32_243 : BitVec 32 := 1#32
  let v394 : BitVec 32 := Scalar.subi arg20 c1_i32_243
  let v395 : BitVec 32 := Scalar.select v393 arg2 v394
  let c512_i32_244 : BitVec 32 := 512#32
  let v396 : BitVec 32 := Scalar.muli v395 c512_i32_244
  let v397 : BitVec 32 := v396
  let v411 : Index := Scalar.indexCast v397
  ![0, 0, v411.toNat]
def k0_mult10 (i : grid0.Coords) (k0_t2 : Fin (k0_t2_loop i).trips) : BitVec 32 :=
  let c0_i32_155 : BitVec 32 := 0#32
  let arg2 : BitVec 32 := BitVec.ofNat 32 (i 2).val
  let v225 : BitVec 32 := Scalar.subi arg2 c0_i32_155
  let c1_i32 : BitVec 32 := 1#32
  let v227 : BitVec 32 := Scalar.divsi v225 c1_i32
  let v228 : BitVec 32 := Scalar.muli v227 c1_i32
  let v229 : BitVec 32 := Scalar.addi c0_i32_155 v228
  let c1_i32_157 : BitVec 32 := 1#32
  let arg20 : BitVec 32 := Scf.iv v229 c1_i32_157 k0_t2
  let c512_i32_260 : BitVec 32 := 512#32
  let v422 : BitVec 32 := Scalar.muli arg20 c512_i32_260
  v422
def k0_mult11 (i : grid0.Coords) (k0_t2 : Fin (k0_t2_loop i).trips) : BitVec 32 :=
  let c0_i32_155 : BitVec 32 := 0#32
  let arg2 : BitVec 32 := BitVec.ofNat 32 (i 2).val
  let v225 : BitVec 32 := Scalar.subi arg2 c0_i32_155
  let c1_i32 : BitVec 32 := 1#32
  let v227 : BitVec 32 := Scalar.divsi v225 c1_i32
  let v228 : BitVec 32 := Scalar.muli v227 c1_i32
  let v229 : BitVec 32 := Scalar.addi c0_i32_155 v228
  let c1_i32_157 : BitVec 32 := 1#32
  let arg20 : BitVec 32 := Scf.iv v229 c1_i32_157 k0_t2
  let c512_i32_270 : BitVec 32 := 512#32
  let v437 : BitVec 32 := Scalar.muli arg20 c512_i32_270
  v437
def k0_off9 (i : grid0.Coords) (k0_t2 : Fin (k0_t2_loop i).trips) : Fin 3 → Nat :=
  let c0_279 : Index := 0#32
  let c0_280 : Index := 0#32
  let c0_i32_155 : BitVec 32 := 0#32
  let arg2 : BitVec 32 := BitVec.ofNat 32 (i 2).val
  let v225 : BitVec 32 := Scalar.subi arg2 c0_i32_155
  let c1_i32 : BitVec 32 := 1#32
  let v227 : BitVec 32 := Scalar.divsi v225 c1_i32
  let v228 : BitVec 32 := Scalar.muli v227 c1_i32
  let v229 : BitVec 32 := Scalar.addi c0_i32_155 v228
  let c1_i32_157 : BitVec 32 := 1#32
  let arg20 : BitVec 32 := Scf.iv v229 c1_i32_157 k0_t2
  let c512_i32_270 : BitVec 32 := 512#32
  let v437 : BitVec 32 := Scalar.muli arg20 c512_i32_270
  let v438 : BitVec 32 := v437
  let v452 : Index := Scalar.indexCast v438
  ![0, 0, v452.toNat]
def k0_mult12 (i : grid0.Coords) : BitVec 32 :=
  let arg2 : BitVec 32 := BitVec.ofNat 32 (i 2).val
  let c0_i32_158 : BitVec 32 := 0#32
  let v230 : BitVec 1 := Scalar.cmpi .eq arg2 c0_i32_158
  let c1_i32_159 : BitVec 32 := 1#32
  let v231 : BitVec 32 := Scalar.subi arg2 c1_i32_159
  let v232 : BitVec 32 := Scalar.select v230 arg2 v231
  let c512_i32_160 : BitVec 32 := 512#32
  let v233 : BitVec 32 := Scalar.muli v232 c512_i32_160
  v233
def k0_off10 (i : grid0.Coords) : Fin 3 → Nat :=
  let c0_169 : Index := 0#32
  let c0_170 : Index := 0#32
  let arg2 : BitVec 32 := BitVec.ofNat 32 (i 2).val
  let c0_i32_158 : BitVec 32 := 0#32
  let v230 : BitVec 1 := Scalar.cmpi .eq arg2 c0_i32_158
  let c1_i32_159 : BitVec 32 := 1#32
  let v231 : BitVec 32 := Scalar.subi arg2 c1_i32_159
  let v232 : BitVec 32 := Scalar.select v230 arg2 v231
  let c512_i32_160 : BitVec 32 := 512#32
  let v233 : BitVec 32 := Scalar.muli v232 c512_i32_160
  let v234 : BitVec 32 := v233
  let v248 : Index := Scalar.indexCast v234
  ![0, 0, v248.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, c0_i32.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c1_i32 : BitVec 32 := 1#32
  let c0_i32 : BitVec 32 := 0#32
  let c0_i32_0 : BitVec 32 := 0#32
  ![arg1.toNat, c1_i32.toNat, c0_i32.toNat, v1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, c0_i32.toNat, v1.toNat]

abbrev stage0_0 : Fin 2 → Memref sig .tc .vmem S4x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x80x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x8x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S4x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x4096x1024 : Shape := ⟨3, ![8, 4096, 1024]⟩
abbrev S8x4096x4x64 : Shape := ⟨4, ![8, 4096, 4, 64]⟩
abbrev S8x4x4096x64 : Shape := ⟨4, ![8, 4, 4096, 64]⟩
abbrev S8x4096x48 : Shape := ⟨3, ![8, 4096, 48]⟩
abbrev S48 : Shape := ⟨1, ![48]⟩
abbrev S8x4096x4x4x64 : Shape := ⟨5, ![8, 4096, 4, 4, 64]⟩
abbrev S1x1x48 : Shape := ⟨3, ![1, 1, 48]⟩
abbrev S_ : Shape := ⟨0, ![]⟩
abbrev S8x4096x4x4x3 : Shape := ⟨5, ![8, 4096, 4, 4, 3]⟩
abbrev S8x4x4096x4096x4 : Shape := ⟨5, ![8, 4, 4096, 4096, 4]⟩
abbrev S8x4x4x4096x4096 : Shape := ⟨5, ![8, 4, 4, 4096, 4096]⟩
abbrev S8x4x4096x64x64 : Shape := ⟨5, ![8, 4, 4096, 64, 64]⟩
abbrev S8x4x4096x4096 : Shape := ⟨4, ![8, 4, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x1x4096x4096 : Shape := ⟨4, ![1, 1, 4096, 4096]⟩
abbrev S8x4x1x4096x4096 : Shape := ⟨5, ![8, 4, 1, 4096, 4096]⟩
abbrev S8x4x4x4096 : Shape := ⟨4, ![8, 4, 4, 4096]⟩
abbrev S8x4x4x4096x1 : Shape := ⟨5, ![8, 4, 4, 4096, 1]⟩
abbrev S8x4x64x4x4096 : Shape := ⟨5, ![8, 4, 64, 4, 4096]⟩
abbrev S8x4096x4x4x1 : Shape := ⟨5, ![8, 4096, 4, 4, 1]⟩
abbrev S4x4x64x8x4096 : Shape := ⟨5, ![4, 4, 64, 8, 4096]⟩
abbrev S16x64x32768 : Shape := ⟨3, ![16, 64, 32768]⟩

abbrev nBuf : Space → Nat
  | .hbm => 75
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x4x64, .f32⟩
  | .hbm, ⟨2, _⟩ => ⟨S8x4096x4x64, .f32⟩
  | .hbm, ⟨3, _⟩ => ⟨S8x4x4096x64, .i32⟩
  | .hbm, ⟨4, _⟩ => ⟨S8x4096x48, .f32⟩
  | .hbm, ⟨5, _⟩ => ⟨S48, .f32⟩
  | .hbm, ⟨6, _⟩ => ⟨S8x4096x4x4x64, .f32⟩
  | .hbm, ⟨7, _⟩ => ⟨S1x1x48, .f32⟩
  | .hbm, ⟨8, _⟩ => ⟨S8x4096x48, .f32⟩
  | .hbm, ⟨9, _⟩ => ⟨S8x4096x48, .f32⟩
  | .hbm, ⟨10, _⟩ => ⟨S8x4096x48, .f32⟩
  | .hbm, ⟨11, _⟩ => ⟨S8x4096x48, .f32⟩
  | .hbm, ⟨12, _⟩ => ⟨S_, .f32⟩
  | .hbm, ⟨13, _⟩ => ⟨S8x4096x48, .f32⟩
  | .hbm, ⟨14, _⟩ => ⟨S8x4096x48, .f32⟩
  | .hbm, ⟨15, _⟩ => ⟨S_, .f32⟩
  | .hbm, ⟨16, _⟩ => ⟨S8x4096x48, .f32⟩
  | .hbm, ⟨17, _⟩ => ⟨S8x4096x48, .f32⟩
  | .hbm, ⟨18, _⟩ => ⟨S8x4096x4x4x3, .f32⟩
  | .hbm, ⟨19, _⟩ => ⟨S8x4x4096x4096x4, .f32⟩
  | .hbm, ⟨20, _⟩ => ⟨S8x4x4x4096x4096, .f32⟩
  | .hbm, ⟨21, _⟩ => ⟨S_, .f32⟩
  | .hbm, ⟨22, _⟩ => ⟨S8x4x4x4096x4096, .f32⟩
  | .hbm, ⟨23, _⟩ => ⟨S8x4x4x4096x4096, .f32⟩
  | .hbm, ⟨24, _⟩ => ⟨S_, .i32⟩
  | .hbm, ⟨25, _⟩ => ⟨S8x4x4096x64, .i32⟩
  | .hbm, ⟨26, _⟩ => ⟨S8x4x4096x64, .i1⟩
  | .hbm, ⟨27, _⟩ => ⟨S8x4x4096x64x64, .i1⟩
  | .hbm, ⟨28, _⟩ => ⟨S8x4x4096x4096, .i1⟩
  | .hbm, ⟨29, _⟩ => ⟨S4096, .i32⟩
  | .hbm, ⟨30, _⟩ => ⟨S4096x1, .i32⟩
  | .hbm, ⟨31, _⟩ => ⟨S4096, .i32⟩
  | .hbm, ⟨32, _⟩ => ⟨S1x4096, .i32⟩
  | .hbm, ⟨33, _⟩ => ⟨S4096x4096, .i32⟩
  | .hbm, ⟨34, _⟩ => ⟨S4096x4096, .i32⟩
  | .hbm, ⟨35, _⟩ => ⟨S4096x4096, .i1⟩
  | .hbm, ⟨36, _⟩ => ⟨S1x1x4096x4096, .i1⟩
  | .hbm, ⟨37, _⟩ => ⟨S8x4x4096x4096, .i1⟩
  | .hbm, ⟨38, _⟩ => ⟨S8x4x4096x4096, .i1⟩
  | .hbm, ⟨39, _⟩ => ⟨S8x4x1x4096x4096, .i1⟩
  | .hbm, ⟨40, _⟩ => ⟨S_, .f32⟩
  | .hbm, ⟨41, _⟩ => ⟨S_, .f32⟩
  | .hbm, ⟨42, _⟩ => ⟨S8x4x4x4096x4096, .i1⟩
  | .hbm, ⟨43, _⟩ => ⟨S8x4x4x4096x4096, .f32⟩
  | .hbm, ⟨44, _⟩ => ⟨S8x4x4x4096x4096, .f32⟩
  | .hbm, ⟨45, _⟩ => ⟨S_, .f32⟩
  | .hbm, ⟨46, _⟩ => ⟨S8x4x4x4096, .f32⟩
  | .hbm, ⟨47, _⟩ => ⟨S8x4x4x4096x1, .f32⟩
  | .hbm, ⟨48, _⟩ => ⟨S8x4x4x4096x1, .f32⟩
  | .hbm, ⟨49, _⟩ => ⟨S_, .f32⟩
  | .hbm, ⟨50, _⟩ => ⟨S8x4x4x4096x1, .f32⟩
  | .hbm, ⟨51, _⟩ => ⟨S8x4x4x4096x1, .i1⟩
  | .hbm, ⟨52, _⟩ => ⟨S_, .f32⟩
  | .hbm, ⟨53, _⟩ => ⟨S_, .f32⟩
  | .hbm, ⟨54, _⟩ => ⟨S8x4x4x4096x1, .f32⟩
  | .hbm, ⟨55, _⟩ => ⟨S8x4x4x4096x1, .f32⟩
  | .hbm, ⟨56, _⟩ => ⟨S8x4x4x4096x4096, .f32⟩
  | .hbm, ⟨57, _⟩ => ⟨S8x4x4x4096x4096, .f32⟩
  | .hbm, ⟨58, _⟩ => ⟨S8x4x4x4096x4096, .f32⟩
  | .hbm, ⟨59, _⟩ => ⟨S_, .f32⟩
  | .hbm, ⟨60, _⟩ => ⟨S8x4x4x4096, .f32⟩
  | .hbm, ⟨61, _⟩ => ⟨S8x4x4x4096x1, .f32⟩
  | .hbm, ⟨62, _⟩ => ⟨S_, .f32⟩
  | .hbm, ⟨63, _⟩ => ⟨S8x4x4x4096x1, .f32⟩
  | .hbm, ⟨64, _⟩ => ⟨S8x4x4x4096x1, .f32⟩
  | .hbm, ⟨65, _⟩ => ⟨S8x4x4x4096x4096, .f32⟩
  | .hbm, ⟨66, _⟩ => ⟨S8x4x4x4096x4096, .f32⟩
  | .hbm, ⟨67, _⟩ => ⟨S8x4x64x4x4096, .f32⟩
  | .hbm, ⟨68, _⟩ => ⟨S8x4096x4x4x64, .f32⟩
  | .hbm, ⟨69, _⟩ => ⟨S8x4096x4x4x1, .f32⟩
  | .hbm, ⟨70, _⟩ => ⟨S8x4096x4x4x64, .f32⟩
  | .hbm, ⟨71, _⟩ => ⟨S8x4096x4x4x64, .f32⟩
  | .hbm, ⟨72, _⟩ => ⟨S4x4x64x8x4096, .f32⟩
  | .hbm, ⟨73, _⟩ => ⟨S16x64x32768, .f32⟩
  | .hbm, ⟨74, _⟩ => ⟨S16x64x32768, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_call1_v0 : Ref sig .tc := ⟨.hbm, 53, rfl⟩
abbrev main_call1_v1 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== EvenProj.lean ====
abbrev S32768x1024 : Shape := ⟨2, ![32768, 1024]⟩
abbrev S1024 : Shape := ⟨1, ![1024]⟩
abbrev S1024x5648 : Shape := ⟨2, ![1024, 5648]⟩
abbrev S1024x16 : Shape := ⟨2, ![1024, 16]⟩
abbrev S1024x2560 : Shape := ⟨2, ![1024, 2560]⟩
abbrev S1024x3072 : Shape := ⟨2, ![1024, 3072]⟩
abbrev S1024x5632 : Shape := ⟨2, ![1024, 5632]⟩
abbrev S_ : Shape := ⟨0, ![]⟩
abbrev S1024x128 : Shape := ⟨2, ![1024, 128]⟩
abbrev S1024x5760 : Shape := ⟨2, ![1024, 5760]⟩
abbrev S16x1024 : Shape := ⟨2, ![16, 1024]⟩
abbrev S16 : Shape := ⟨1, ![16]⟩
abbrev S1x1024 : Shape := ⟨2, ![1, 1024]⟩
abbrev S16x1 : Shape := ⟨2, ![16, 1]⟩
abbrev S32768x1536 : Shape := ⟨2, ![32768, 1536]⟩
abbrev S32768x2048 : Shape := ⟨2, ![32768, 2048]⟩
abbrev S32768x128 : Shape := ⟨2, ![32768, 128]⟩
abbrev S16x32768 : Shape := ⟨2, ![16, 32768]⟩
abbrev S512x1024 : Shape := ⟨2, ![512, 1024]⟩
abbrev S512x1536 : Shape := ⟨2, ![512, 1536]⟩
abbrev S512x2048 : Shape := ⟨2, ![512, 2048]⟩
abbrev S512x128 : Shape := ⟨2, ![512, 128]⟩
abbrev S16x512 : Shape := ⟨2, ![16, 512]⟩
abbrev S512 : Shape := ⟨1, ![512]⟩
abbrev S512x1 : Shape := ⟨2, ![512, 1]⟩
abbrev S1024x1024 : Shape := ⟨2, ![1024, 1024]⟩
abbrev S1024x1536 : Shape := ⟨2, ![1024, 1536]⟩
abbrev S1024x2048 : Shape := ⟨2, ![1024, 2048]⟩

abbrev nBuf : Space → Nat
  | .hbm => 24
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5648, .f32⟩
  | .hbm, ⟨3, _⟩ => ⟨S1024x16, .f32⟩
  | .hbm, ⟨4, _⟩ => ⟨S1024x2560, .f32⟩
  | .hbm, ⟨5, _⟩ => ⟨S1024x3072, .f32⟩
  | .hbm, ⟨6, _⟩ => ⟨S1024x5632, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x5760, .f32⟩
  | .hbm, ⟨11, _⟩ => ⟨S1024x5760, .bf16⟩
  | .hbm, ⟨12, _⟩ => ⟨S16x1024, .f32⟩
  | .hbm, ⟨13, _⟩ => ⟨S16x1024, .bf16⟩
  | .hbm, ⟨14, _⟩ => ⟨S_, .f32⟩
  | .hbm, ⟨15, _⟩ => ⟨S16, .f32⟩
  | .hbm, ⟨16, _⟩ => ⟨S1x1024, .f32⟩
  | .hbm, ⟨17, _⟩ => ⟨S16x1, .f32⟩
  | .hbm, ⟨18, _⟩ => ⟨S32768x1024, .f32⟩
  | .hbm, ⟨19, _⟩ => ⟨S32768x1536, .f32⟩
  | .hbm, ⟨20, _⟩ => ⟨S32768x2048, .f32⟩
  | .hbm, ⟨21, _⟩ => ⟨S32768x1024, .f32⟩
  | .hbm, ⟨22, _⟩ => ⟨S32768x128, .f32⟩
  | .hbm, ⟨23, _⟩ => ⟨S16x32768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5760, .bf16⟩
  | .local _ .vmem, ⟨4, _⟩ => ⟨S16x1024, .bf16⟩
  | .local _ .vmem, ⟨5, _⟩ => ⟨S16x1, .f32⟩
  | .local _ .vmem, ⟨6, _⟩ => ⟨S512x1024, .f32⟩
  | .local _ .vmem, ⟨7, _⟩ => ⟨S512x1024, .f32⟩
  | .local _ .vmem, ⟨8, _⟩ => ⟨S512x1536, .f32⟩
  | .local _ .vmem, ⟨9, _⟩ => ⟨S512x1536, .f32⟩
  | .local _ .vmem, ⟨10, _⟩ => ⟨S512x2048, .f32⟩
  | .local _ .vmem, ⟨11, _⟩ => ⟨S512x2048, .f32⟩
  | .local _ .vmem, ⟨12, _⟩ => ⟨S512x1024, .f32⟩
  | .local _ .vmem, ⟨13, _⟩ => ⟨S512x1024, .f32⟩
  | .local _ .vmem, ⟨14, _⟩ => ⟨S512x128, .f32⟩
  | .local _ .vmem, ⟨15, _⟩ => ⟨S512x128, .f32⟩
  | .local _ .vmem, ⟨16, _⟩ => ⟨S16x512, .f32⟩
  | .local _ .vmem, ⟨17, _⟩ => ⟨S16x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev main_v12_4 : Ref sig .tc := ⟨.hbm, 22, rfl⟩
abbrev main_v12_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5760 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== EvenProjReferenceIdeal.lean ====
abbrev S32768x1024 : Shape := ⟨2, ![32768, 1024]⟩
abbrev S1024 : Shape := ⟨1, ![1024]⟩
abbrev S1024x5648 : Shape := ⟨2, ![1024, 5648]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5648 : Shape := ⟨2, ![32768, 5648]⟩
abbrev S32768x16 : Shape := ⟨2, ![32768, 16]⟩
abbrev S32768x1536 : Shape := ⟨2, ![32768, 1536]⟩
abbrev S32768x2048 : Shape := ⟨2, ![32768, 2048]⟩
abbrev S32768x128 : Shape := ⟨2, ![32768, 128]⟩
abbrev S16x32768 : Shape := ⟨2, ![16, 32768]⟩

abbrev nBuf : Space → Nat
  | .hbm => 29
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5648, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x5648, .f32⟩
  | .hbm, ⟨20, _⟩ => ⟨S32768x16, .f32⟩
  | .hbm, ⟨21, _⟩ => ⟨S32768x1024, .f32⟩
  | .hbm, ⟨22, _⟩ => ⟨S32768x1536, .f32⟩
  | .hbm, ⟨23, _⟩ => ⟨S32768x2048, .f32⟩
  | .hbm, ⟨24, _⟩ => ⟨S32768x1024, .f32⟩
  | .hbm, ⟨25, _⟩ => ⟨S_, .i32⟩
  | .hbm, ⟨26, _⟩ => ⟨S_, .f32⟩
  | .hbm, ⟨27, _⟩ => ⟨S32768x128, .f32⟩
  | .hbm, ⟨28, _⟩ => ⟨S16x32768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== EvenOut.lean ====
abbrev S32768x1024 : Shape := ⟨2, ![32768, 1024]⟩
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 11
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S2048x1024, .f32⟩
  | .hbm, ⟨4, _⟩ => ⟨S32768x1024, .bf16⟩
  | .hbm, ⟨5, _⟩ => ⟨S32768x1024, .bf16⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== EvenOutReferenceIdeal.lean ====
abbrev S32768x1024 : Shape := ⟨2, ![32768, 1024]⟩
abbrev S2048x1024 : Shape := ⟨2, ![2048, 1024]⟩
abbrev S32768x2048 : Shape := ⟨2, ![32768, 2048]⟩

abbrev nBuf : Space → Nat
  | .hbm => 7
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S2048x1024, .f32⟩
  | .hbm, ⟨4, _⟩ => ⟨S32768x2048, .f32⟩
  | .hbm, ⟨5, _⟩ => ⟨S32768x1024, .f32⟩
  | .hbm, ⟨6, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== OddOut.lean ====
abbrev S32768x1024 : Shape := ⟨2, ![32768, 1024]⟩
abbrev S1024x32768 : Shape := ⟨2, ![1024, 32768]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024x32768, .f32⟩
  | .hbm, ⟨2, _⟩ => ⟨S1024x32768, .f32⟩
  | .hbm, ⟨3, _⟩ => ⟨S1024x32768, .f32⟩
  | .hbm, ⟨4, _⟩ => ⟨S1024x1024, .f32⟩
  | .hbm, ⟨5, _⟩ => ⟨S1024, .f32⟩
  | .hbm, ⟨6, _⟩ => ⟨S1024x32768, .bf16⟩
  | .hbm, ⟨7, _⟩ => ⟨S1024x32768, .bf16⟩
  | .hbm, ⟨8, _⟩ => ⟨S1024x1024, .bf16⟩
  | .hbm, ⟨9, _⟩ => ⟨S1x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | .local _ .vmem, ⟨7, _⟩ => ⟨S1024x512, .f32⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OddOutReferenceIdeal.lean ====
abbrev S32768x1024 : Shape := ⟨2, ![32768, 1024]⟩
abbrev S1024x32768 : Shape := ⟨2, ![1024, 32768]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x32768, .f32⟩
  | .hbm, ⟨2, _⟩ => ⟨S1024x32768, .f32⟩
  | .hbm, ⟨3, _⟩ => ⟨S1024x32768, .f32⟩
  | .hbm, ⟨4, _⟩ => ⟨S1024x1024, .f32⟩
  | .hbm, ⟨5, _⟩ => ⟨S1024, .f32⟩
  | .hbm, ⟨6, _⟩ => ⟨S1024x32768, .f32⟩
  | .hbm, ⟨7, _⟩ => ⟨S1024x32768, .f32⟩
  | .hbm, ⟨8, _⟩ => ⟨S1024x32768, .f32⟩
  | .hbm, ⟨9, _⟩ => ⟨S_, .f32⟩
  | .hbm, ⟨10, _⟩ => ⟨S1024x32768, .f32⟩
  | .hbm, ⟨11, _⟩ => ⟨S1024x32768, .f32⟩
  | .hbm, ⟨12, _⟩ => ⟨S_, .f32⟩
  | .hbm, ⟨13, _⟩ => ⟨S1024x32768, .f32⟩
  | .hbm, ⟨14, _⟩ => ⟨S1024x32768, .f32⟩
  | .hbm, ⟨15, _⟩ => ⟨S1024x32768, .f32⟩
  | .hbm, ⟨16, _⟩ => ⟨S1024x32768, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x1, .f32⟩
  | .hbm, ⟨31, _⟩ => ⟨S32768x1024, .f32⟩
  | .hbm, ⟨32, _⟩ => ⟨S32768x1024, .f32⟩
  | .hbm, ⟨33, _⟩ => ⟨S1x1024, .f32⟩
  | .hbm, ⟨34, _⟩ => ⟨S32768x1024, .f32⟩
  | .hbm, ⟨35, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩

abbrev nD : Nat := 1
abbrev τ : Topo := Topo.v7x

variable {F : FTy → Type} [FloatOps F]
-- ==== Proof.RunKernelIdeal.lean ====
/-
  The body of `KernelIdeal`'s `pallas_call` (one block of 512 queries of one key/value group), run once at symbolic operands.

  The counted loop over the key blocks is gone through by an invariant that names what the scratch buffers hold before
  each trip (`Carry`, `carryAt`): the pending scores of the second query stream with their column maxima, and for either
  stream the running maximum and the running numerators with the running denominator.
-/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.LoopRemainder
public import Idealize.ShloMosaic.Lib.Pipeline.FrameBody
public import Idealize.ShloMosaic.Lib.Pipeline.Value
public import Idealize.ShloMosaic.Lib.Tactic

@[expose] public section

set_option maxRecDepth 100000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the trips hand on: the second stream's pending scores and their column maxima, and each stream's running maximum
    and running sums (64 numerator rows, the denominator's row, padding). -/
structure Carry (F : FTy → Type) [FloatOps F] where
  s1 : Vec F S512x1024 .f32
  mx1 : Vec F S1x1024 .f32
  m1 : Vec F S1x1024 .f32
  acc1 : Vec F S80x1024 .f32
  m0 : Vec F S1x1024 .f32
  acc0 : Vec F S80x1024 .f32

/-- One trip on what is carried: from the key block `kb`, the value block `vb` of the same keys, the value block `vp` of the
    pending scores, and the two streams' augmented queries. -/
def Carry.step (kb : Vec F S512x128 .bf16) (vp vb : Vec F S1x80x512 .bf16) (q0 q1 : Vec F S128x1024 .bf16) (x : Carry F) : Carry F where
  s1 := k0_pay11 kb q1
  mx1 := k0_pay12 kb q1
  m1 := k0_pay9 (k0_pay5 x.m1 x.mx1)
  acc1 := k0_pay8 (k0_pay6 x.m1 x.mx1 x.s1) (k0_pay7 x.m1 x.mx1 x.acc1) vp
  m0 := k0_pay66 (k0_pay13 x.m0 (k0_pay4 kb q0))
  acc0 := k0_pay65 x.m0 (k0_pay13 x.m0 (k0_pay4 kb q0)) (k0_pay14 x.m0 (k0_pay4 kb q0) (k0_pay3 kb q0)) x.acc0 vb

/-- The key block trip `k` loads, of the group's keys `x4`. -/
def keyBlk (i : grid0.Coords) (k : Fin (k0_t1_loop i).trips) (x4 : Vec F S4096x128 .bf16) : Vec F S512x128 .bf16 :=
  View.ld x4 (Rect.unit (s := S4096x128) (k0_off4 i k) S512x128.size (k0_off4_inb i k))
/-- The value block of the pending scores at trip `k`, of the group's values `x5`. -/
def valPrev (i : grid0.Coords) (k : Fin (k0_t1_loop i).trips) (x5 : Vec F S1x80x4096 .bf16) : Vec F S1x80x512 .bf16 :=
  View.ld x5 (Rect.unit (s := S1x80x4096) (k0_off5 i k) S1x80x512.size (k0_off5_inb i k))
/-- The value block of trip `k`'s own keys. -/
def valBlk (i : grid0.Coords) (k : Fin (k0_t1_loop i).trips) (x5 : Vec F S1x80x4096 .bf16) : Vec F S1x80x512 .bf16 :=
  View.ld x5 (Rect.unit (s := S1x80x4096) (k0_off6 i k) S1x80x512.size (k0_off6_inb i k))

/-- What is carried before trip `k`, from what was at the loop's entry. -/
def carryAt (i : grid0.Coords) (x4 : Vec F S4096x128 .bf16) (x5 : Vec F S1x80x4096 .bf16) (q0 q1 : Vec F S128x1024 .bf16)
    (s1 : Vec F S512x1024 .f32) (mx1 m1 : Vec F S1x1024 .f32) (acc1 : Vec F S80x1024 .f32) (m0 : Vec F S1x1024 .f32) (acc0 : Vec F S80x1024 .f32) : ℕ → Carry F
  | 0 => ⟨s1, mx1, m1, acc1, m0, acc0⟩
  | k + 1 =>
    if h : k < (k0_t1_loop i).trips then
      (carryAt i x4 x5 q0 q1 s1 mx1 m1 acc1 m0 acc0 k).step (keyBlk i ⟨k, h⟩ x4) (valPrev i ⟨k, h⟩ x5) (valBlk i ⟨k, h⟩ x5) q0 q1
    else carryAt i x4 x5 q0 q1 s1 mx1 m1 acc1 m0 acc0 k

theorem carryAt_succ (i : grid0.Coords) (x4 : Vec F S4096x128 .bf16) (x5 : Vec F S1x80x4096 .bf16) (q0 q1 : Vec F S128x1024 .bf16)
    (s1 : Vec F S512x1024 .f32) (mx1 m1 : Vec F S1x1024 .f32) (acc1 : Vec F S80x1024 .f32) (m0 : Vec F S1x1024 .f32) (acc0 : Vec F S80x1024 .f32)
    (k : Fin (k0_t1_loop i).trips) :
    carryAt i x4 x5 q0 q1 s1 mx1 m1 acc1 m0 acc0 (k.val + 1)
      = (carryAt i x4 x5 q0 q1 s1 mx1 m1 acc1 m0 acc0 k.val).step (keyBlk i k x4) (valPrev i k x5) (valBlk i k x5) q0 q1 := by
  rw [carryAt, dif_pos k.isLt]

/-! ## What the body computes, from the blocks it is handed -/

/-- The stores of a stream's augmented queries, the last first: for each of the four heads, 64 rows of queries above 64 rows of the selection's bias. -/
def augL0 (x3 : Vec F S4x64x512 .bf16) (x6 : Vec F S1x1x64x512 .bf16) : List (View.Piece (Elt F) S128x1024 .bf16) := [
    (⟨Rect.unit (s := S128x1024) ![64, 768] S64x256.size inb_S128x1024_S64x256_64_768, k0_pay39 (k0_pay37 (View.ld x6 (Rect.unit (s := S1x1x64x512) ![0, 0, 0, 0] S1x1x64x256.size inb_S1x1x64x512_S1x1x64x256_0_0_0_0))) (k0_pay38 (F := F))⟩ : View.Piece (Elt F) S128x1024 .bf16),
    (⟨Rect.unit (s := S128x1024) ![0, 768] S64x256.size inb_S128x1024_S64x256_0_768, k0_pay36 (View.ld x3 (Rect.unit (s := S4x64x512) ![3, 0, 0] S1x64x256.size inb_S4x64x512_S1x64x256_3_0_0))⟩ : View.Piece (Elt F) S128x1024 .bf16),
    (⟨Rect.unit (s := S128x1024) ![64, 512] S64x256.size inb_S128x1024_S64x256_64_512, k0_pay35 (View.ld x6 (Rect.unit (s := S1x1x64x512) ![0, 0, 0, 0] S1x1x64x256.size inb_S1x1x64x512_S1x1x64x256_0_0_0_0))⟩ : View.Piece (Elt F) S128x1024 .bf16),
    (⟨Rect.unit (s := S128x1024) ![0, 512] S64x256.size inb_S128x1024_S64x256_0_512, k0_pay34 (View.ld x3 (Rect.unit (s := S4x64x512) ![2, 0, 0] S1x64x256.size inb_S4x64x512_S1x64x256_2_0_0))⟩ : View.Piece (Elt F) S128x1024 .bf16),
    (⟨Rect.unit (s := S128x1024) ![64, 256] S64x256.size inb_S128x1024_S64x256_64_256, k0_pay33 (k0_pay31 (View.ld x6 (Rect.unit (s := S1x1x64x512) ![0, 0, 0, 0] S1x1x64x256.size inb_S1x1x64x512_S1x1x64x256_0_0_0_0))) (Named.named κ "mask" 0xF149F2CA#32) (k0_pay32 (F := F))⟩ : View.Piece (Elt F) S128x1024 .bf16),
    (⟨Rect.unit (s := S128x1024) ![0, 256] S64x256.size inb_S128x1024_S64x256_0_256, k0_pay30 (View.ld x3 (Rect.unit (s := S4x64x512) ![1, 0, 0] S1x64x256.size inb_S4x64x512_S1x64x256_1_0_0))⟩ : View.Piece (Elt F) S128x1024 .bf16),
    (⟨Rect.unit (s := S128x1024) ![64, 0] S64x256.size inb_S128x1024_S64x256_64_0, k0_pay29 (View.ld x6 (Rect.unit (s := S1x1x64x512) ![0, 0, 0, 0] S1x1x64x256.size inb_S1x1x64x512_S1x1x64x256_0_0_0_0))⟩ : View.Piece (Elt F) S128x1024 .bf16),
    (⟨Rect.unit (s := S128x1024) ![0, 0] S64x256.size inb_S128x1024_S64x256_0_0, k0_pay28 (View.ld x3 (Rect.unit (s := S4x64x512) ![0, 0, 0] S1x64x256.size inb_S4x64x512_S1x64x256_0_0_0))⟩ : View.Piece (Elt F) S128x1024 .bf16)]
def augL1 (x3 : Vec F S4x64x512 .bf16) (x6 : Vec F S1x1x64x512 .bf16) : List (View.Piece (Elt F) S128x1024 .bf16) := [
    (⟨Rect.unit (s := S128x1024) ![64, 768] S64x256.size inb_S128x1024_S64x256_64_768, k0_pay50 (View.ld x6 (Rect.unit (s := S1x1x64x512) ![0, 0, 0, 256] S1x1x64x256.size inb_S1x1x64x512_S1x1x64x256_0_0_0_256))⟩ : View.Piece (Elt F) S128x1024 .bf16),
    (⟨Rect.unit (s := S128x1024) ![0, 768] S64x256.size inb_S128x1024_S64x256_0_768, k0_pay49 (View.ld x3 (Rect.unit (s := S4x64x512) ![3, 0, 256] S1x64x256.size inb_S4x64x512_S1x64x256_3_0_256))⟩ : View.Piece (Elt F) S128x1024 .bf16),
    (⟨Rect.unit (s := S128x1024) ![64, 512] S64x256.size inb_S128x1024_S64x256_64_512, k0_pay48 (k0_pay47 (View.ld x6 (Rect.unit (s := S1x1x64x512) ![0, 0, 0, 256] S1x1x64x256.size inb_S1x1x64x512_S1x1x64x256_0_0_0_256)))⟩ : View.Piece (Elt F) S128x1024 .bf16),
    (⟨Rect.unit (s := S128x1024) ![0, 512] S64x256.size inb_S128x1024_S64x256_0_512, k0_pay46 (View.ld x3 (Rect.unit (s := S4x64x512) ![2, 0, 256] S1x64x256.size inb_S4x64x512_S1x64x256_2_0_256))⟩ : View.Piece (Elt F) S128x1024 .bf16),
    (⟨Rect.unit (s := S128x1024) ![64, 256] S64x256.size inb_S128x1024_S64x256_64_256, k0_pay45 (View.ld x6 (Rect.unit (s := S1x1x64x512) ![0, 0, 0, 256] S1x1x64x256.size inb_S1x1x64x512_S1x1x64x256_0_0_0_256))⟩ : View.Piece (Elt F) S128x1024 .bf16),
    (⟨Rect.unit (s := S128x1024) ![0, 256] S64x256.size inb_S128x1024_S64x256_0_256, k0_pay44 (View.ld x3 (Rect.unit (s := S4x64x512) ![1, 0, 256] S1x64x256.size inb_S4x64x512_S1x64x256_1_0_256))⟩ : View.Piece (Elt F) S128x1024 .bf16),
    (⟨Rect.unit (s := S128x1024) ![64, 0] S64x256.size inb_S128x1024_S64x256_64_0, k0_pay43 (View.ld x6 (Rect.unit (s := S1x1x64x512) ![0, 0, 0, 256] S1x1x64x256.size inb_S1x1x64x512_S1x1x64x256_0_0_0_256))⟩ : View.Piece (Elt F) S128x1024 .bf16),
    (⟨Rect.unit (s := S128x1024) ![0, 0] S64x256.size inb_S128x1024_S64x256_0_0, k0_pay42 (View.ld x3 (Rect.unit (s := S4x64x512) ![0, 0, 256] S1x64x256.size inb_S4x64x512_S1x64x256_0_0_256))⟩ : View.Piece (Elt F) S128x1024 .bf16)]

/-- The augmented queries of the two streams. -/
def aug0 (x3 : Vec F S4x64x512 .bf16) (x6 : Vec F S1x1x64x512 .bf16) : Vec F S128x1024 .bf16 := View.canon (augL0 x3 x6)
def aug1 (x3 : Vec F S4x64x512 .bf16) (x6 : Vec F S1x1x64x512 .bf16) : Vec F S128x1024 .bf16 := View.canon (augL1 x3 x6)

/-- The first of the block's queries, as the body's words have it. -/
abbrev tileW (i : grid0.Coords) : BitVec 32 := BitVec.ofNat 32 (i 2).val
abbrev baseW (i : grid0.Coords) : BitVec 32 := Scalar.muli (tileW i) 512#32

def keyDiag0 (i : grid0.Coords) (x4 : Vec F S4096x128 .bf16) : Vec F S256x128 .bf16 :=
  View.ld x4 (Rect.unit (s := S4096x128) (k0_off1 i) S256x128.size (k0_off1_inb i))
def keyDiag1 (i : grid0.Coords) (x4 : Vec F S4096x128 .bf16) : Vec F S512x128 .bf16 :=
  View.ld x4 (Rect.unit (s := S4096x128) (k0_off2 i) S512x128.size (k0_off2_inb i))
def valDiag0 (i : grid0.Coords) (x5 : Vec F S1x80x4096 .bf16) : Vec F S1x80x256 .bf16 :=
  View.ld x5 (Rect.unit (s := S1x80x4096) (k0_off3 i) S1x80x256.size (k0_off3_inb i))
def valLast (i : grid0.Coords) (x5 : Vec F S1x80x4096 .bf16) : Vec F S1x80x512 .bf16 :=
  View.ld x5 (Rect.unit (s := S1x80x4096) (k0_off10 i) S1x80x512.size (k0_off10_inb i))

/-- The masked scores of the first stream against the diagonal's first 256 keys, and their column maxima. -/
def sDiag0 (i : grid0.Coords) (kd : Vec F S256x128 .bf16) (q0 : Vec F S128x1024 .bf16) : Vec F S256x1024 .f32 :=
  k0_pay55 (baseW i) (baseW i) (k0_pay53 kd) q0
def mxDiag0 (i : grid0.Coords) (kd : Vec F S256x128 .bf16) (q0 : Vec F S128x1024 .bf16) : Vec F S1x1024 .f32 :=
  k0_pay56 (baseW i) (baseW i) (k0_pay53 kd) q0
/-- The masked scores of the second stream against the diagonal's 512 keys, and their column maxima. -/
def sDiag1 (i : grid0.Coords) (kd : Vec F S512x128 .bf16) (q1 : Vec F S128x1024 .bf16) : Vec F S512x1024 .f32 :=
  k0_pay60 (k0_pay57 kd q1) (k0_pay58 (tileW i) (baseW i)) (Named.named κ "mask" 0xF149F2CA#32)
def mxDiag1 (i : grid0.Coords) (kd : Vec F S512x128 .bf16) (q1 : Vec F S128x1024 .bf16) : Vec F S1x1024 .f32 :=
  k0_pay61 (k0_pay57 kd q1) (k0_pay58 (tileW i) (baseW i)) (Named.named κ "mask" 0xF149F2CA#32)

/-- What is carried at the loop's exit. -/
def carryEnd (i : grid0.Coords) (x4 : Vec F S4096x128 .bf16) (x5 : Vec F S1x80x4096 .bf16) (q0 q1 : Vec F S128x1024 .bf16) : Carry F :=
  carryAt i x4 x5 q0 q1 (sDiag1 i (keyDiag1 i x4) q1) (mxDiag1 i (keyDiag1 i x4) q1) k0_pay51 k0_pay52
    (k0_pay64 k0_pay40 (mxDiag0 i (keyDiag0 i x4) q0))
    (k0_pay63 k0_pay40 (mxDiag0 i (keyDiag0 i x4) q0) (sDiag0 i (keyDiag0 i x4) q0) k0_pay41 (valDiag0 i x5))
    (k0_t1_loop i).trips

/-- The second stream's sums, its last pending scores added. -/
def accEnd1 (i : grid0.Coords) (x5 : Vec F S1x80x4096 .bf16) (x : Carry F) : Vec F S80x1024 .f32 :=
  k0_pay70 x.m1 x.mx1 x.s1 x.acc1 (valLast i x5)

/-- The block stored: for each head and stream the numerators over the denominators, gated. -/
def outL (x7 : Vec F S1x1x8x512 .f32) (x8 : Vec F S1x1x8x1 .f32) (a0 a1 : Vec F S80x1024 .f32) : List (View.Piece (Elt F) S4x64x512 .bf16) := [
    (⟨Rect.unit (s := S4x64x512) ![3, 0, 256] S1x64x256.size inb_S4x64x512_S1x64x256_3_0_256, k0_pay1 (k0_pay81 (k0_pay72 x7 x8) (View.ld a1 (Rect.unit (s := S80x1024) ![0, 768] S80x256.size inb_S80x1024_S80x256_0_768)))⟩ : View.Piece (Elt F) S4x64x512 .bf16),
    (⟨Rect.unit (s := S4x64x512) ![2, 0, 256] S1x64x256.size inb_S4x64x512_S1x64x256_2_0_256, k0_pay80 (k0_pay72 x7 x8) (View.ld a1 (Rect.unit (s := S80x1024) ![0, 512] S80x256.size inb_S80x1024_S80x256_0_512))⟩ : View.Piece (Elt F) S4x64x512 .bf16),
    (⟨Rect.unit (s := S4x64x512) ![1, 0, 256] S1x64x256.size inb_S4x64x512_S1x64x256_1_0_256, k0_pay79 (k0_pay72 x7 x8) (View.ld a1 (Rect.unit (s := S80x1024) ![0, 256] S80x256.size inb_S80x1024_S80x256_0_256))⟩ : View.Piece (Elt F) S4x64x512 .bf16),
    (⟨Rect.unit (s := S4x64x512) ![0, 0, 256] S1x64x256.size inb_S4x64x512_S1x64x256_0_0_256, k0_pay78 (k0_pay77 (k0_pay72 x7 x8) (View.ld a1 (Rect.unit (s := S80x1024) ![0, 0] S80x256.size inb_S80x1024_S80x256_0_0)))⟩ : View.Piece (Elt F) S4x64x512 .bf16),
    (⟨Rect.unit (s := S4x64x512) ![3, 0, 0] S1x64x256.size inb_S4x64x512_S1x64x256_3_0_0, k0_pay76 (k0_pay72 x7 x8) (View.ld a0 (Rect.unit (s := S80x1024) ![0, 768] S80x256.size inb_S80x1024_S80x256_0_768))⟩ : View.Piece (Elt F) S4x64x512 .bf16),
    (⟨Rect.unit (s := S4x64x512) ![2, 0, 0] S1x64x256.size inb_S4x64x512_S1x64x256_2_0_0, k0_pay75 (k0_pay72 x7 x8) (View.ld a0 (Rect.unit (s := S80x1024) ![0, 512] S80x256.size inb_S80x1024_S80x256_0_512))⟩ : View.Piece (Elt F) S4x64x512 .bf16),
    (⟨Rect.unit (s := S4x64x512) ![1, 0, 0] S1x64x256.size inb_S4x64x512_S1x64x256_1_0_0, k0_pay74 x7 x8 (View.ld a0 (Rect.unit (s := S80x1024) ![0, 256] S80x256.size inb_S80x1024_S80x256_0_256))⟩ : View.Piece (Elt F) S4x64x512 .bf16),
    (⟨Rect.unit (s := S4x64x512) ![0, 0, 0] S1x64x256.size inb_S4x64x512_S1x64x256_0_0_0, k0_pay73 x7 x8 (View.ld a0 (Rect.unit (s := S80x1024) ![0, 0] S80x256.size inb_S80x1024_S80x256_0_0))⟩ : View.Piece (Elt F) S4x64x512 .bf16)]

/-- The block the body leaves at point `i`, from the six input blocks. -/
def out0_6 (i : grid0.Coords) (x3 : Vec F S4x64x512 .bf16) (x4 : Vec F S4096x128 .bf16) (x5 : Vec F S1x80x4096 .bf16) (x6 : Vec F S1x1x64x512 .bf16)
    (x7 : Vec F S1x1x8x512 .f32) (x8 : Vec F S1x1x8x1 .f32) : Vec F S4x64x512 .bf16 :=
  View.canon (outL x7 x8 (carryEnd i x4 x5 (aug0 x3 x6) (aug1 x3 x6)).acc0
    (accEnd1 i x5 (carryEnd i x4 x5 (aug0 x3 x6) (aug1 x3 x6))))

theorem hz4 : (![0, 0, 0, 0] : Fin 4 → ℕ) = fun _ => 0 := by decide
theorem hz2 : (![0, 0] : Fin 2 → ℕ) = fun _ => 0 := by funext a; fin_cases a <;> rfl

/-- A buffer one whole store was written to reads as what was stored. -/
theorem read_whole_store {S : Shape} {e : EltTy} {sp : Space} (v : View sig .tc sp S e) (f : v.ty.Contents (Elt F)) {off : Fin S.rank → ℕ}
    (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_cons_self, View.mem_set_unit_zero h inb y⟩), View.canon_unit_zero h]

/-- What view `v` reads of the contents `f` (a name the loop's invariant is matched by). -/
@[irreducible] def rdv {S : Shape} {e : EltTy} {sp : Space} (v : View sig .tc sp S e) (f : v.ty.Contents (Elt F)) : S.Idx → Elt F e := v.read (Elt F) f
theorem rdv_eq {S : Shape} {e : EltTy} {sp : Space} (v : View sig .tc sp S e) (f : v.ty.Contents (Elt F)) : rdv v f = v.read (Elt F) f := by
  unfold rdv; rfl

theorem rdv_top {sp : Space} {S : Shape} {e : EltTy} [∀ e, Nonempty (Elt F e)] (v : View sig .tc sp S e) (f : v.ty.Contents (Elt F))
    {off : Fin S.rank → ℕ} (h : off = fun _ => 0) {inb : ∀ a, off a + S.size a ≤ S.size a} {w : S.Idx → Elt F e} {L L' : List (View.Piece (Elt F) S e)}
    (hL : L = ⟨Rect.unit off S.size inb, w⟩ :: L') : rdv v (v.writes (Elt F) f L) = w := by
  subst hL
  rw [rdv_eq, View.read_writes_eq_canon _ _ _ (fun y => ⟨_, List.mem_cons_self, View.mem_set_unit_zero h inb y⟩)]
  exact View.canon_cons_unit_zero h inb _ _

theorem cover_augL0 (x3 : Vec F S4x64x512 .bf16) (x6 : Vec F S1x1x64x512 .bf16) (y : S128x1024.Idx) :
    ∃ p ∈ augL0 x3 x6, y ∈ p.1.set := View.cover_of_tiled (augL0 x3 x6) S64x256.size (by rfl) y
theorem cover_augL1 (x3 : Vec F S4x64x512 .bf16) (x6 : Vec F S1x1x64x512 .bf16) (y : S128x1024.Idx) :
    ∃ p ∈ augL1 x3 x6, y ∈ p.1.set := View.cover_of_tiled (augL1 x3 x6) S64x256.size (by rfl) y
theorem cover_outL (x7 : Vec F S1x1x8x512 .f32) (x8 : Vec F S1x1x8x1 .f32) (a0 a1 : Vec F S80x1024 .f32) (y : S4x64x512.Idx) :
    ∃ p ∈ outL x7 x8 a0 a1, y ∈ p.1.set := View.cover_of_tiled (outL x7 x8 a0 a1) S1x64x256.size (by rfl) y

theorem read_of_list {κ : Kind} {sp : Space} {S : Shape} {e : EltTy} [∀ e, Nonempty (Elt F e)] (v : View sig κ sp S e) (f : v.ty.Contents (Elt F))
    {L L' : List (View.Piece (Elt F) S e)} (cover : ∀ y, ∃ p ∈ L', y ∈ p.1.set) (h : L = L') :
    v.read (Elt F) (v.writes (Elt F) f L) = View.canon L' := by
  subst h
  exact View.read_writes_eq_canon _ _ _ cover

theorem carryEnd_of {i : grid0.Coords} {x4 : Vec F S4096x128 .bf16} {x5 : Vec F S1x80x4096 .bf16} {q0 q1 : Vec F S128x1024 .bf16}
    {x4' : Vec F S4096x128 .bf16} {x5' : Vec F S1x80x4096 .bf16} {q0' q1' : Vec F S128x1024 .bf16} {s1 : Vec F S512x1024 .f32} {mx1 m1 : Vec F S1x1024 .f32}
    {acc1 : Vec F S80x1024 .f32} {m0 : Vec F S1x1024 .f32} {acc0 : Vec F S80x1024 .f32}
    (h4 : x4' = x4) (h5 : x5' = x5) (h0 : q0' = q0) (h1 : q1' = q1)
    (hs1 : s1 = sDiag1 i (keyDiag1 i x4) q1) (hmx1 : mx1 = mxDiag1 i (keyDiag1 i x4) q1) (hm1 : m1 = k0_pay51) (hacc1 : acc1 = k0_pay52)
    (hm0 : m0 = k0_pay64 k0_pay40 (mxDiag0 i (keyDiag0 i x4) q0))
    (hacc0 : acc0 = k0_pay63 k0_pay40 (mxDiag0 i (keyDiag0 i x4) q0) (sDiag0 i (keyDiag0 i x4) q0) k0_pay41 (valDiag0 i x5)) :
    carryAt i x4' x5' q0' q1' s1 mx1 m1 acc1 m0 acc0 (Scf.trips (k0_t1_loop i).lb (k0_t1_loop i).ub (k0_t1_loop i).st) = carryEnd i x4 x5 q0 q1 := by
  subst h4 h5 h0 h1 hs1 hmx1 hm1 hacc1 hm0 hacc0
  rfl

section Run

attribute [local irreducible] shapeCast

variable (c : Dev nD) (i : grid0.Coords)
  (arg3 : Memref sig .tc .vmem S4x64x512 .bf16) (harg3 : arg3.IsWhole)
  (arg4 : Memref sig .tc .vmem S4096x128 .bf16) (harg4 : arg4.IsWhole)
  (arg5 : Memref sig .tc .vmem S1x80x4096 .bf16) (harg5 : arg5.IsWhole)
  (arg6 : Memref sig .tc .vmem S1x1x64x512 .bf16) (harg6 : arg6.IsWhole)
  (arg7 : Memref sig .tc .vmem S1x1x8x512 .f32) (harg7 : arg7.IsWhole)
  (arg8 : Memref sig .tc .vmem S1x1x8x1 .f32) (harg8 : arg8.IsWhole)
  (arg9 : Memref sig .tc .vmem S4x64x512 .bf16) (harg9 : arg9.IsWhole)
  (arg10 : Memref sig .tc .vmem S128x1024 .bf16) (harg10 : arg10.IsWhole)
  (arg11 : Memref sig .tc .vmem S128x1024 .bf16) (harg11 : arg11.IsWhole)
  (arg12 : Memref sig .tc .vmem S512x1024 .f32) (harg12 : arg12.IsWhole)
  (arg13 : Memref sig .tc .vmem S512x1024 .f32) (harg13 : arg13.IsWhole)
  (arg14 : Memref sig .tc .vmem S1x1024 .f32) (harg14 : arg14.IsWhole)
  (arg15 : Memref sig .tc .vmem S1x1024 .f32) (harg15 : arg15.IsWhole)
  (arg16 : Memref sig .tc .vmem S1x1024 .f32) (harg16 : arg16.IsWhole)
  (arg17 : Memref sig .tc .vmem S1x1024 .f32) (harg17 : arg17.IsWhole)
  (arg18 : Memref sig .tc .vmem S80x1024 .f32) (harg18 : arg18.IsWhole)
  (arg19 : Memref sig .tc .vmem S80x1024 .f32) (harg19 : arg19.IsWhole)

/-- A buffer held whole, at contents the memref reads as `x`. -/
abbrev holds {S : Shape} {e : EltTy} (M : Memref sig .tc .vmem S e) (x : S.Idx → Elt F e) : sProp 𝕄 :=
  owns (c : Thread nD τ) M fullShare x

theorem trip (x4 : Vec F S4096x128 .bf16) (x5 : Vec F S1x80x4096 .bf16) (q0 q1 : Vec F S128x1024 .bf16) (x : Carry F)
    (arg2 : BitVec 32) (v147 : FVec F S1x1024 .f32) (k : Fin (k0_t1_loop i).trips) :
    iprop(holds c arg4 x4 ∗ holds c arg5 x5 ∗ holds c arg10 q0 ∗ holds c arg11 q1
        ∗ (∃ d, holds c arg12 d) ∗ (∃ d, holds c arg14 d)
        ∗ holds c arg13 x.s1 ∗ holds c arg15 x.mx1 ∗ holds c arg17 x.m1 ∗ holds c arg19 x.acc1 ∗ holds c arg16 x.m0 ∗ holds c arg18 x.acc0)
      ⊢ wp frame (wpE (defs₀ (F := F)) Variants.none (c : Thread nD τ) none) Set.univ
          (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v147 k ())
          (fun _ => iprop(holds c arg4 x4 ∗ holds c arg5 x5 ∗ holds c arg10 q0 ∗ holds c arg11 q1
            ∗ (∃ d, holds c arg12 d) ∗ (∃ d, holds c arg14 d)
            ∗ holds c arg13 (x.step (keyBlk i k x4) (valPrev i k x5) (valBlk i k x5) q0 q1).s1
            ∗ holds c arg15 (x.step (keyBlk i k x4) (valPrev i k x5) (valBlk i k x5) q0 q1).mx1
            ∗ holds c arg17 (x.step (keyBlk i k x4) (valPrev i k x5) (valBlk i k x5) q0 q1).m1
            ∗ holds c arg19 (x.step (keyBlk i k x4) (valPrev i k x5) (valBlk i k x5) q0 q1).acc1
            ∗ holds c arg16 (x.step (keyBlk i k x4) (valPrev i k x5) (valBlk i k x5) q0 q1).m0
            ∗ holds c arg18 (x.step (keyBlk i k x4) (valPrev i k x5) (valBlk i k x5) q0 q1).acc0)) := by
  unfold holds owns
  iintro ⟨⟨%f4, %h4, H4⟩, ⟨%f5, %h5, H5⟩, ⟨%f10, %h10, H10⟩, ⟨%f11, %h11, H11⟩, ⟨%d12, %f12, -, H12⟩, ⟨%d14, %f14, -, H14⟩,
    ⟨%f13, %h13, H13⟩, ⟨%f15, %h15, H15⟩, ⟨%f17, %h17, H17⟩, ⟨%f19, %h19, H19⟩, ⟨%f16, %h16, H16⟩, ⟨%f18, %h18, H18⟩⟩
  unfold k0_t1_body
  sl_exec
  sl_step
  have e10 : q0 = View.readAt (Elt F) arg10.view (Rect.unit (s := S128x1024) ![0, 0] S128x1024.size inb_S128x1024_S128x1024_0_0).toLoadRect f10 := by
    rw [View.readAt_eq_ld, View.ld_unit_zero hz2, h10]
  have e11 : q1 = View.readAt (Elt F) arg11.view (Rect.unit (s := S128x1024) ![0, 0] S128x1024.size inb_S128x1024_S128x1024_0_0).toLoadRect f11 := by
    rw [View.readAt_eq_ld, View.ld_unit_zero hz2, h11]
  have e13 : x.s1 = View.readAt (Elt F) arg13.view (Rect.unit (s := S512x1024) ![0, 0] S512x1024.size inb_S512x1024_S512x1024_0_0).toLoadRect f13 := by
    rw [View.readAt_eq_ld, View.ld_unit_zero hz2, h13]
  have e15 : x.mx1 = View.readAt (Elt F) arg15.view (Rect.unit (s := S1x1024) ![0, 0] S1x1024.size inb_S1x1024_S1x1024_0_0).toLoadRect f15 := by
    rw [View.readAt_eq_ld, View.ld_unit_zero hz2, h15]
  have e17 : x.m1 = View.readAt (Elt F) arg17.view (Rect.unit (s := S1x1024) ![0, 0] S1x1024.size inb_S1x1024_S1x1024_0_0).toLoadRect f17 := by
    rw [View.readAt_eq_ld, View.ld_unit_zero hz2, h17]
  have e19 : x.acc1 = View.readAt (Elt F) arg19.view (Rect.unit (s := S80x1024) ![0, 0] S80x1024.size inb_S80x1024_S80x1024_0_0).toLoadRect f19 := by
    rw [View.readAt_eq_ld, View.ld_unit_zero hz2, h19]
  have e16 : x.m0 = View.readAt (Elt F) arg16.view (Rect.unit (s := S1x1024) ![0, 0] S1x1024.size inb_S1x1024_S1x1024_0_0).toLoadRect f16 := by
    rw [View.readAt_eq_ld, View.ld_unit_zero hz2, h16]
  have e18 : x.acc0 = View.readAt (Elt F) arg18.view (Rect.unit (s := S80x1024) ![0, 0] S80x1024.size inb_S80x1024_S80x1024_0_0).toLoadRect f18 := by
    rw [View.readAt_eq_ld, View.ld_unit_zero hz2, h18]
  have e4 : keyBlk i k x4 = View.readAt (Elt F) arg4.view (Rect.unit (s := S4096x128) (k0_off4 i k) S512x128.size (k0_off4_inb i k)).toLoadRect f4 := by
    rw [View.readAt_eq_ld, h4]; rfl
  have e5 : valPrev i k x5 = View.readAt (Elt F) arg5.view (Rect.unit (s := S1x80x4096) (k0_off5 i k) S1x80x512.size (k0_off5_inb i k)).toLoadRect f5 := by
    rw [View.readAt_eq_ld, h5]; rfl
  have e6 : valBlk i k x5 = View.readAt (Elt F) arg5.view (Rect.unit (s := S1x80x4096) (k0_off6 i k) S1x80x512.size (k0_off6_inb i k)).toLoadRect f5 := by
    rw [View.readAt_eq_ld, h5]; rfl
  have e14 (w : Vec F S1x1024 .f32) : w = arg14.view.readCov [(⟨Rect.unit (s := S1x1024) ![0, 0] S1x1024.size inb_S1x1024_S1x1024_0_0, w⟩ : View.Piece (Elt F) S1x1024 .f32)]
      (Rect.unit (s := S1x1024) ![0, 0] S1x1024.size inb_S1x1024_S1x1024_0_0).toLoadRect :=
    (View.readCov_unit_zero (S := S1x1024) arg14.view hz2 inb_S1x1024_S1x1024_0_0 w).symm
  have e12 (w : Vec F S512x1024 .f32) : w = arg12.view.readCov [(⟨Rect.unit (s := S512x1024) ![0, 0] S512x1024.size inb_S512x1024_S512x1024_0_0, w⟩ : View.Piece (Elt F) S512x1024 .f32)]
      (Rect.unit (s := S512x1024) ![0, 0] S512x1024.size inb_S512x1024_S512x1024_0_0).toLoadRect :=
    (View.readCov_unit_zero (S := S512x1024) arg12.view hz2 inb_S512x1024_S512x1024_0_0 w).symm
  isplitl [H4]
  · iexists f4; isplitr; · ipureintro; exact h4
    iexact H4
  isplitl [H5]
  · iexists f5; isplitr; · ipureintro; exact h5
    iexact H5
  isplitl [H10]
  · iexists f10; isplitr; · ipureintro; exact h10
    iexact H10
  isplitl [H11]
  · iexists f11; isplitr; · ipureintro; exact h11
    iexact H11
  isplitl [H12]
  · iexists _; iexists _; isplitr; swap; · iexact H12
    ipureintro; rfl
  isplitl [H14]
  · iexists _; iexists _; isplitr; swap; · iexact H14
    ipureintro; rfl
  isplitl [H13]
  · iexists _; isplitr; swap; · iexact H13
    ipureintro; rw [read_whole_store _ _ hz2]; dsimp only [Carry.step]
    rw [e4, e11] <;> rfl
  isplitl [H15]
  · iexists _; isplitr; swap; · iexact H15
    ipureintro; rw [read_whole_store _ _ hz2]; dsimp only [Carry.step]
    rw [e4, e11] <;> rfl
  isplitl [H17]
  · iexists _; isplitr; swap; · iexact H17
    ipureintro; rw [read_whole_store _ _ hz2]; dsimp only [Carry.step]
    rw [e15, e17] <;> rfl
  isplitl [H19]
  · iexists _; isplitr; swap; · iexact H19
    ipureintro; rw [read_whole_store _ _ hz2]; dsimp only [Carry.step]
    rw [e13, e15, e17, e19, e5] <;> rfl
  isplitl [H16]
  · iexists _; isplitr; swap; · iexact H16
    ipureintro; rw [read_whole_store _ _ hz2]; dsimp only [Carry.step]
    rw [e4, e10, e16, e14 (k0_pay4 _ _)] <;> rfl
  iexists _; isplitr; swap; · iexact H18
  ipureintro; rw [read_whole_store _ _ hz2]; dsimp only [Carry.step]
  rw [e4, e10, e16, e18, e6, e14 (k0_pay4 _ _), e12 (k0_pay3 _ _)]; rfl

set_option warn.classDefReducibility false in
/-- The loop's invariant: the queries, keys and values as they were; the first stream's score buffers at anything; all that
    is carried at `carryAt`. -/
@[sl_loop] def loopInv_k0_t1 (x4 : Vec F S4096x128 .bf16) (x5 : Vec F S1x80x4096 .bf16) (q0 q1 : Vec F S128x1024 .bf16)
    (s1 : Vec F S512x1024 .f32) (mx1 m1 : Vec F S1x1024 .f32) (acc1 : Vec F S80x1024 .f32) (m0 : Vec F S1x1024 .f32) (acc0 : Vec F S80x1024 .f32)
    (arg2 : BitVec 32) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 mx1 where
  inv k _ := iprop((∃ f, ⌜rdv arg4.view f = x4⌝ ∗ (arg4.view.loc (c : Thread nD τ) ↦[arg4.view.set]{fullShare} f))
      ∗ (∃ f, ⌜rdv arg5.view f = x5⌝ ∗ (arg5.view.loc (c : Thread nD τ) ↦[arg5.view.set]{fullShare} f))
      ∗ (∃ f, ⌜rdv arg10.view f = q0⌝ ∗ (arg10.view.loc (c : Thread nD τ) ↦[arg10.view.set]{fullShare} f))
      ∗ (∃ f, ⌜rdv arg11.view f = q1⌝ ∗ (arg11.view.loc (c : Thread nD τ) ↦[arg11.view.set]{fullShare} f))
      ∗ (∃ d, ∃ f, ⌜rdv arg12.view f = d⌝ ∗ (arg12.view.loc (c : Thread nD τ) ↦[arg12.view.set]{fullShare} f))
      ∗ (∃ d, ∃ f, ⌜rdv arg14.view f = d⌝ ∗ (arg14.view.loc (c : Thread nD τ) ↦[arg14.view.set]{fullShare} f))
      ∗ (∃ f, ⌜rdv arg13.view f = (carryAt i x4 x5 q0 q1 s1 mx1 m1 acc1 m0 acc0 k).s1⌝ ∗ (arg13.view.loc (c : Thread nD τ) ↦[arg13.view.set]{fullShare} f))
      ∗ (∃ f, ⌜rdv arg15.view f = (carryAt i x4 x5 q0 q1 s1 mx1 m1 acc1 m0 acc0 k).mx1⌝ ∗ (arg15.view.loc (c : Thread nD τ) ↦[arg15.view.set]{fullShare} f))
      ∗ (∃ f, ⌜rdv arg17.view f = (carryAt i x4 x5 q0 q1 s1 mx1 m1 acc1 m0 acc0 k).m1⌝ ∗ (arg17.view.loc (c : Thread nD τ) ↦[arg17.view.set]{fullShare} f))
      ∗ (∃ f, ⌜rdv arg19.view f = (carryAt i x4 x5 q0 q1 s1 mx1 m1 acc1 m0 acc0 k).acc1⌝ ∗ (arg19.view.loc (c : Thread nD τ) ↦[arg19.view.set]{fullShare} f))
      ∗ (∃ f, ⌜rdv arg16.view f = (carryAt i x4 x5 q0 q1 s1 mx1 m1 acc1 m0 acc0 k).m0⌝ ∗ (arg16.view.loc (c : Thread nD τ) ↦[arg16.view.set]{fullShare} f))
      ∗ (∃ f, ⌜rdv arg18.view f = (carryAt i x4 x5 q0 q1 s1 mx1 m1 acc1 m0 acc0 k).acc0⌝ ∗ (arg18.view.loc (c : Thread nD τ) ↦[arg18.view.set]{fullShare} f)))
  step k _ := by
    rw [carryAt_succ]; simp only [rdv_eq]
    exact trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x4 x5 q0 q1 _ arg2 _ k

set_option maxHeartbeats 1000000 in
theorem sound_kernel (x3 : Vec F S4x64x512 .bf16) (x4 : Vec F S4096x128 .bf16) (x5 : Vec F S1x80x4096 .bf16) (x6 : Vec F S1x1x64x512 .bf16)
    (x7 : Vec F S1x1x8x512 .f32) (x8 : Vec F S1x1x8x1 .f32) (K : PUnit → sProp 𝕄) :
    iprop(holds c arg3 x3 ∗ holds c arg4 x4 ∗ holds c arg5 x5 ∗ holds c arg6 x6 ∗ holds c arg7 x7 ∗ holds c arg8 x8
        ∗ (∃ d, holds c arg9 d) ∗ (∃ d, holds c arg10 d) ∗ (∃ d, holds c arg11 d) ∗ (∃ d, holds c arg12 d) ∗ (∃ d, holds c arg13 d)
        ∗ (∃ d, holds c arg14 d) ∗ (∃ d, holds c arg15 d) ∗ (∃ d, holds c arg16 d) ∗ (∃ d, holds c arg17 d) ∗ (∃ d, holds c arg18 d) ∗ (∃ d, holds c arg19 d)
        ∗ (iprop(holds c arg3 x3 ∗ holds c arg4 x4 ∗ holds c arg5 x5 ∗ holds c arg6 x6 ∗ holds c arg7 x7 ∗ holds c arg8 x8
            ∗ holds c arg9 (out0_6 i x3 x4 x5 x6 x7 x8) ∗ (∃ d, holds c arg10 d) ∗ (∃ d, holds c arg11 d) ∗ (∃ d, holds c arg12 d) ∗ (∃ d, holds c arg13 d)
            ∗ (∃ d, holds c arg14 d) ∗ (∃ d, holds c arg15 d) ∗ (∃ d, holds c arg16 d) ∗ (∃ d, holds c arg17 d) ∗ (∃ d, holds c arg18 d) ∗ (∃ d, holds c arg19 d)) -∗ K ⟨⟩))
      ⊢ wp frame (wpE (defs₀ (F := F)) Variants.none (c : Thread nD τ) none) Set.univ (cc0_sel_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  unfold holds owns
  iintro ⟨⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  sl_exec
  sl_step
  subst h3 h4 h5 h6 h7 h8
  have e10 : aug0 (arg3.view.read (Elt F) f3) (arg6.view.read (Elt F) f6) = arg10.view.readCov (augL0 (arg3.view.read (Elt F) f3) (arg6.view.read (Elt F) f6)) (Rect.unit (s := S128x1024) ![0, 0] S128x1024.size inb_S128x1024_S128x1024_0_0).toLoadRect := by
    rw [View.readCov_eq_canon_ld _ _ _ (cover_augL0 _ _), View.ld_unit_zero hz2]; rfl
  have e11 : aug1 (arg3.view.read (Elt F) f3) (arg6.view.read (Elt F) f6) = arg11.view.readCov (augL1 (arg3.view.read (Elt F) f3) (arg6.view.read (Elt F) f6)) (Rect.unit (s := S128x1024) ![0, 0] S128x1024.size inb_S128x1024_S128x1024_0_0).toLoadRect := by
    rw [View.readCov_eq_canon_ld _ _ _ (cover_augL1 _ _), View.ld_unit_zero hz2]; rfl
  have e12 (w : Vec F S256x1024 .f32) : w = arg12.view.readCov [(⟨(Rect.unit (s := S512x1024) ![0, 0] S256x1024.size inb_S512x1024_S256x1024_0_0), w⟩ : View.Piece (Elt F) S512x1024 .f32)] (Rect.unit (s := S512x1024) ![0, 0] S256x1024.size inb_S512x1024_S256x1024_0_0).toLoadRect :=
    (View.readCov_cons_toLoadRect arg12.view (Rect.unit (s := S512x1024) ![0, 0] S256x1024.size inb_S512x1024_S256x1024_0_0) w []).symm
  have e14 (w : Vec F S1x1024 .f32) : w = arg14.view.readCov [(⟨(Rect.unit (s := S1x1024) ![0, 0] S1x1024.size inb_S1x1024_S1x1024_0_0), w⟩ : View.Piece (Elt F) S1x1024 .f32)] (Rect.unit (s := S1x1024) ![0, 0] S1x1024.size inb_S1x1024_S1x1024_0_0).toLoadRect :=
    (View.readCov_unit_zero (S := S1x1024) arg14.view hz2 inb_S1x1024_S1x1024_0_0 w).symm
  have e16 (w : Vec F S1x1024 .f32) : w = arg16.view.readCov [(⟨(Rect.unit (s := S1x1024) ![0, 0] S1x1024.size inb_S1x1024_S1x1024_0_0), w⟩ : View.Piece (Elt F) S1x1024 .f32)] (Rect.unit (s := S1x1024) ![0, 0] S1x1024.size inb_S1x1024_S1x1024_0_0).toLoadRect :=
    (View.readCov_unit_zero (S := S1x1024) arg16.view hz2 inb_S1x1024_S1x1024_0_0 w).symm
  have e18 (w : Vec F S80x1024 .f32) : w = arg18.view.readCov [(⟨(Rect.unit (s := S80x1024) ![0, 0] S80x1024.size inb_S80x1024_S80x1024_0_0), w⟩ : View.Piece (Elt F) S80x1024 .f32)] (Rect.unit (s := S80x1024) ![0, 0] S80x1024.size inb_S80x1024_S80x1024_0_0).toLoadRect :=
    (View.readCov_unit_zero (S := S80x1024) arg18.view hz2 inb_S80x1024_S80x1024_0_0 w).symm
  have hh := And.intro hL12 (And.intro hL14 (And.intro hL16 (And.intro hL18 hL22)))
  rw [carryEnd_of (x4 := arg4.view.read (Elt F) f4) (x5 := arg5.view.read (Elt F) f5)
    (q0 := aug0 (arg3.view.read (Elt F) f3) (arg6.view.read (Elt F) f6)) (q1 := aug1 (arg3.view.read (Elt F) f3) (arg6.view.read (Elt F) f6))
    (rdv_eq _ _) (rdv_eq _ _) ?gh_a ?gh_b ?gh_s1 ?gh_mx1 ?gh_m1 ?gh_acc1 ?gh_m0 ?gh_acc0] at hh
  case gh_a => rw [rdv_eq]; exact View.read_writes_eq_canon _ _ _ (cover_augL0 _ _)
  case gh_b => rw [rdv_eq]; exact View.read_writes_eq_canon _ _ _ (cover_augL1 _ _)
  case gh_s1 => rw [e11]; exact rdv_top _ _ hz2 rfl
  case gh_mx1 => rw [e11]; exact rdv_top _ _ hz2 rfl
  case gh_m1 => exact rdv_top _ _ hz2 rfl
  case gh_acc1 => exact rdv_top _ _ hz2 rfl
  case gh_m0 => rw [e14 (mxDiag0 _ _ _), e10, e16 k0_pay40]; exact rdv_top _ _ hz2 rfl
  case gh_acc0 => rw [e14 (mxDiag0 _ _ _), e12 (sDiag0 _ _ _), e10, e16 k0_pay40, e18 k0_pay41]; exact rdv_top _ _ hz2 rfl
  obtain ⟨g13, g15, g17, g19, g18⟩ := hh
  rw [rdv_eq] at g13 g15 g17 g19 g18 hL2
  rw [rdv_eq] at hL2
  have e19 (r : Rect S80x1024) (w : Vec F S80x1024 .f32) : View.ld w r = arg19.view.readCov [(⟨(Rect.unit (s := S80x1024) ![0, 0] S80x1024.size inb_S80x1024_S80x1024_0_0), w⟩ : View.Piece (Elt F) S80x1024 .f32)] r.toLoadRect := by
    rw [View.readCov_eq_canon_ld _ _ _ (fun y => ⟨_, List.mem_singleton_self _, View.mem_set_unit_zero hz2 inb_S80x1024_S80x1024_0_0 y⟩), View.canon_unit_zero hz2]
  iapply Hk
  isplitl [H3]
  · iexists f3; isplitr; · ipureintro; rfl
    iexact H3
  isplitl [H4]
  · iexists fL0; isplitr; · ipureintro; rw [rdv_eq, rdv_eq] at hL0; exact hL0
    iexact H4
  isplitl [H5]
  · iexists fL1; isplitr; · ipureintro; exact hL2
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr; swap; · iexact H9
    ipureintro
    refine read_of_list arg9.view f9 (cover_outL _ _ _ _) ?_
    unfold outL
    simp only [fun r => e19 r (accEnd1 i (arg5.view.read (Elt F) f5) (carryEnd i (arg4.view.read (Elt F) f4) (arg5.view.read (Elt F) f5) (aug0 (arg3.view.read (Elt F) f3) (arg6.view.read (Elt F) f6)) (aug1 (arg3.view.read (Elt F) f3) (arg6.view.read (Elt F) f6))))]
    unfold accEnd1
    rw [← g13, ← g15, ← g17, ← g19, ← g18, ← hL2]
    rw [show arg7.view.read (Elt F) f7 = View.readAt (Elt F) arg7.view (Rect.unit (s := S1x1x8x512) ![0, 0, 0, 0] S1x1x8x512.size inb_S1x1x8x512_S1x1x8x512_0_0_0_0).toLoadRect f7 from
      by rw [View.readAt_eq_ld, View.ld_unit_zero hz4]]
    rw [show arg8.view.read (Elt F) f8 = View.readAt (Elt F) arg8.view (Rect.unit (s := S1x1x8x1) ![0, 0, 0, 0] S1x1x8x1.size inb_S1x1x8x1_S1x1x8x1_0_0_0_0).toLoadRect f8 from
      by rw [View.readAt_eq_ld, View.ld_unit_zero hz4]]
    rw [show arg13.view.read (Elt F) fL8 = View.readAt (Elt F) arg13.view (Rect.unit (s := S512x1024) ![0, 0] S512x1024.size inb_S512x1024_S512x1024_0_0).toLoadRect fL8 from
      by rw [View.readAt_eq_ld, View.ld_unit_zero hz2]]
    rw [show arg15.view.read (Elt F) fL9 = View.readAt (Elt F) arg15.view (Rect.unit (s := S1x1024) ![0, 0] S1x1024.size inb_S1x1024_S1x1024_0_0).toLoadRect fL9 from
      by rw [View.readAt_eq_ld, View.ld_unit_zero hz2]]
    rw [show arg17.view.read (Elt F) fL10 = View.readAt (Elt F) arg17.view (Rect.unit (s := S1x1024) ![0, 0] S1x1024.size inb_S1x1024_S1x1024_0_0).toLoadRect fL10 from
      by rw [View.readAt_eq_ld, View.ld_unit_zero hz2]]
    rw [show arg19.view.read (Elt F) fL11 = View.readAt (Elt F) arg19.view (Rect.unit (s := S80x1024) ![0, 0] S80x1024.size inb_S80x1024_S80x1024_0_0).toLoadRect fL11 from
      by rw [View.readAt_eq_ld, View.ld_unit_zero hz2]]
    sl_unfold_words
    unfold valLast k0_pay1 k0_pay81 k0_pay80 k0_pay79 k0_pay78 k0_pay77 k0_pay76 k0_pay75 k0_pay74 k0_pay73 k0_pay72 k0_pay70
    rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  isplitl [H18]
  · iexists _; iexists _; isplitr; swap; · iexact H18
    ipureintro; rfl
  iexists _; iexists _; isplitr; swap; · iexact H19
  ipureintro; rfl

end Run

end Cert.KernelIdeal.Hand

end
-- ==== Proof.FrameKernelIdeal.lean ====
module

public import proofs.«01_k».proof.Proof.RunKernelIdeal
import Idealize.ShloMosaic.Lib.Tactic

/-! The frame run of `KernelIdeal`: what each window's buffer holds at each point, the body's obligation, and the run of the whole program. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F] (m : (ℓ : Loc nD τ sig) → Buf (Elt F) ℓ) (ρ : Dev nD → PrngReg)

local notation "𝕄" => MT nD τ sig Unit (Elt F) ℕ (UR sig nD τ) ℕ

/-- The proof data: an input window's buffer keeps its block, the output window's is left at `out0_6` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (grid0.coords t) (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (grid0.coords t) (iblk m c 0 t) (iblk m c 1 t) (iblk m c 2 t) (iblk m c 3 t) (iblk m c 4 t) (iblk m c 5 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem scratch_open (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  iintro ⟨%f, H⟩
  iexists f
  iapply (Entails.of_eq (owns_whole (c : Thread nD τ) b fullShare f).symm)
  iexact H
theorem scratch_close (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  iintro ⟨%f, H⟩
  iexists f
  iapply (Entails.of_eq (owns_whole (c : Thread nD τ) b fullShare f))
  iexact H

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl]
  unfold Pipeline.ΦA
  rw [scopedRest0_eq]
  iintro ⟨⟨⟨S0, S1, S2, S3, S4, S5, S6, S7, S8, S9⟩, Hp⟩, Ho, ⟨%d0, H0⟩, ⟨%d1, H1⟩, ⟨%d2, H2⟩, ⟨%d3, H3⟩, ⟨%d4, H4⟩, ⟨%d5, H5⟩, ⟨%d6, H6⟩⟩
  iapply (sound_kernel c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iapply (scratch_open c cc0_scratch0); iexact S0
  isplitl [S1]; · iapply (scratch_open c cc0_scratch1); iexact S1
  isplitl [S2]; · iapply (scratch_open c cc0_scratch2); iexact S2
  isplitl [S3]; · iapply (scratch_open c cc0_scratch3); iexact S3
  isplitl [S4]; · iapply (scratch_open c cc0_scratch4); iexact S4
  isplitl [S5]; · iapply (scratch_open c cc0_scratch5); iexact S5
  isplitl [S6]; · iapply (scratch_open c cc0_scratch6); iexact S6
  isplitl [S7]; · iapply (scratch_open c cc0_scratch7); iexact S7
  isplitl [S8]; · iapply (scratch_open c cc0_scratch8); iexact S8
  isplitl [S9]; · iapply (scratch_open c cc0_scratch9); iexact S9
  iintro ⟨H0, H1, H2, H3, H4, H5, H6, S0, S1, S2, S3, S4, S5, S6, S7, S8, S9⟩
  isplitl [S0 S1 S2 S3 S4 S5 S6 S7 S8 S9 Hp]
  · isplitr [Hp]
    · isplitl [S0]; · iapply (scratch_close c cc0_scratch0); iexact S0
      isplitl [S1]; · iapply (scratch_close c cc0_scratch1); iexact S1
      isplitl [S2]; · iapply (scratch_close c cc0_scratch2); iexact S2
      isplitl [S3]; · iapply (scratch_close c cc0_scratch3); iexact S3
      isplitl [S4]; · iapply (scratch_close c cc0_scratch4); iexact S4
      isplitl [S5]; · iapply (scratch_close c cc0_scratch5); iexact S5
      isplitl [S6]; · iapply (scratch_close c cc0_scratch6); iexact S6
      isplitl [S7]; · iapply (scratch_close c cc0_scratch7); iexact S7
      isplitl [S8]; · iapply (scratch_close c cc0_scratch8); iexact S8
      iapply (scratch_close c cc0_scratch9); iexact S9
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The program terminates with every window's array at what its blocks made it, every other array as the region found it,
    and no semaphore counted. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

end Cert.KernelIdeal.Hand

end
-- ==== Proof.Online.lean ====
/- Softmax by running maxima, over the extended reals: rescaling a sum of exponentials when the maximum grows, taking a set of
   keys in one piece after another, and the quotient at the end against the softmax written plainly. -/
module

public import Idealize.ShloMosaic.PureOps.Ideal

@[expose] public section

noncomputable section

namespace Cert.Online

open Idealize.ShloMosaic

theorem exp_nonneg (x : EReal) : 0 ≤ Ideal.exp x := by
  induction x with
  | bot => simp
  | top => simp
  | coe r => rw [Ideal.exp_coe]; exact_mod_cast (Real.exp_pos r).le

theorem sub_top (x : EReal) : x - ⊤ = ⊥ := by rw [sub_eq_add_neg, EReal.neg_top, EReal.add_bot]

/-- A difference that is not positive has an exponential of at most one. -/
theorem exp_sub_le_one {x y : EReal} (h : x ≤ y) : Ideal.exp (x - y) ≤ 1 := by
  induction y with
  | bot => rw [le_bot_iff] at h; subst h; simp
  | top => rw [sub_top]; simp
  | coe y =>
    induction x with
    | bot => rw [EReal.bot_sub]; simp
    | top => exact absurd h (by simp)
    | coe x =>
      rw [← EReal.coe_sub, Ideal.exp_coe]
      have : x - y ≤ 0 := sub_nonpos.2 (EReal.coe_le_coe_iff.1 h)
      exact_mod_cast Real.exp_le_one_iff.2 this

theorem exp_sub_ne_top {x y : EReal} (h : x ≤ y) : Ideal.exp (x - y) ≠ ⊤ :=
  ne_top_of_le_ne_top (by exact_mod_cast EReal.coe_ne_top 1) (exp_sub_le_one h)

/-- Against a greater maximum, an exponential is the one against the smaller maximum rescaled. -/
theorem exp_rescale {s x y : EReal} (h : s ≤ x) (h' : x ≤ y) : Ideal.exp (x - y) * Ideal.exp (s - x) = Ideal.exp (s - y) := by
  induction y with
  | top => rw [sub_top, sub_top]; simp
  | bot => rw [le_bot_iff] at h'; subst h'; rw [le_bot_iff] at h; subst h; simp
  | coe y =>
    induction x with
    | top => exact absurd h' (by simp)
    | bot => rw [le_bot_iff] at h; subst h; simp
    | coe x =>
      induction s with
      | top => exact absurd h (by simp)
      | bot => simp
      | coe s =>
        rw [← EReal.coe_sub, ← EReal.coe_sub, ← EReal.coe_sub, Ideal.exp_coe, Ideal.exp_coe, Ideal.exp_coe, ← EReal.coe_mul,
          ← Real.exp_add]
        congr 2; ring

/-- A factor from `[0, ⊤)` goes into a sum. -/
theorem mul_sum {ι : Type} {c : EReal} (h0 : 0 ≤ c) (ht : c ≠ ⊤) (s : Finset ι) (f : ι → EReal) :
    c * ∑ k ∈ s, f k = ∑ k ∈ s, c * f k := by
  classical
  induction s using Finset.induction_on with
  | empty => simp
  | insert a s ha ih => rw [Finset.sum_insert ha, Finset.sum_insert ha, EReal.left_distrib_of_nonneg_of_ne_top h0 ht, ih]

/-- The weighted sum of the exponentials of scores `μ` over a set of keys, against `x`. -/
def mass (μ w : ℕ → EReal) (K : Finset ℕ) (x : EReal) : EReal := ∑ k ∈ K, w k * Ideal.exp (μ k - x)

theorem mass_rescale (μ w : ℕ → EReal) (K : Finset ℕ) {y : EReal} (h : K.sup μ ≤ y) :
    Ideal.exp (K.sup μ - y) * mass μ w K (K.sup μ) = mass μ w K y := by
  rw [mass, mul_sum (exp_nonneg _) (exp_sub_ne_top h)]
  refine Finset.sum_congr rfl fun k hk => ?_
  rw [mul_left_comm, exp_rescale (Finset.le_sup hk) h]

/-- One piece of keys taken in: the maximum and the sums over the keys before it become those over the keys with it. -/
theorem mass_step (μ w : ℕ → EReal) {K B : Finset ℕ} (hd : Disjoint K B) :
    Ideal.exp (K.sup μ - max (K.sup μ) (B.sup μ)) * mass μ w K (K.sup μ) + mass μ w B (max (K.sup μ) (B.sup μ))
      = mass μ w (K ∪ B) ((K ∪ B).sup μ) := by
  rw [mass_rescale μ w K (le_max_left _ _), Finset.sup_union, mass, mass, mass, Finset.sum_union hd]

/-- Keys of score `⊥` change neither the maximum nor the sums. -/
theorem sup_of_sub (μ : ℕ → EReal) {K L : Finset ℕ} (h : K ⊆ L) (hb : ∀ k ∈ L, k ∉ K → μ k = ⊥) : K.sup μ = L.sup μ := by
  refine le_antisymm (Finset.sup_mono h) (Finset.sup_le fun k hk => ?_)
  by_cases hK : k ∈ K
  · exact Finset.le_sup hK
  · rw [hb k hk hK]; exact bot_le

theorem mass_of_sub (μ w : ℕ → EReal) {K L : Finset ℕ} (h : K ⊆ L) (hb : ∀ k ∈ L, k ∉ K → μ k = ⊥) (x : EReal) :
    mass μ w K x = mass μ w L x := by
  refine Finset.sum_subset h fun k hk hK => ?_
  rw [hb k hk hK, EReal.bot_sub, Ideal.exp_bot, mul_zero]

theorem sum_nonneg {s : Finset ℕ} {f : ℕ → EReal} (h : ∀ k, 0 ≤ f k) : 0 ≤ ∑ k ∈ s, f k := Finset.sum_nonneg fun k _ => h k

theorem sum_ne_top {s : Finset ℕ} {f : ℕ → EReal} (h : ∀ k ∈ s, f k ≠ ⊤) : ∑ k ∈ s, f k ≠ ⊤ := by
  classical
  induction s using Finset.induction_on with
  | empty => simp
  | insert a s ha ih =>
    rw [Finset.sum_insert ha]
    exact EReal.add_ne_top (h a (Finset.mem_insert_self _ _)) (ih fun k hk => h k (Finset.mem_insert_of_mem hk))

theorem absf_lt_top (x : EReal) : max x (-x) < ⊤ ↔ x ≠ ⊤ ∧ x ≠ ⊥ := by
  rw [max_lt_iff, lt_top_iff_ne_top, lt_top_iff_ne_top]
  refine and_congr Iff.rfl (not_congr ?_)
  rw [EReal.neg_eq_top_iff]

theorem weight_zero {e : EReal} (v : EReal) (h : e = 0) {D : EReal} (hD : 0 < D) : v * Ideal.div e D = 0 := by
  rw [h, Ideal.div, if_neg hD.ne', zero_mul, mul_zero]

/-- The quotient at the end: numerator over denominator, gated, is the gated weighted sum of the softmax's weights, the maximum
    replaced by zero where it is infinite and the denominator kept above `ε`. -/
theorem quotient (μ v : ℕ → EReal) (L : Finset ℕ) (g ε : EReal) (hε : 0 < ε) (hε1 : ε ≤ 1) :
    mass μ v L (L.sup μ) * Ideal.div 1 (mass μ (fun _ => 1) L (L.sup μ)) * g
      = g * ∑ k ∈ L, v k * Ideal.div (Ideal.exp (μ k - if max (L.sup μ) (-(L.sup μ)) < ⊤ then L.sup μ else 0))
          (max (∑ k ∈ L, Ideal.exp (μ k - if max (L.sup μ) (-(L.sup μ)) < ⊤ then L.sup μ else 0)) ε) := by
  have hzero (h : ∀ k ∈ L, Ideal.exp (μ k - L.sup μ) = 0) :
      mass μ v L (L.sup μ) * Ideal.div 1 (mass μ (fun _ => 1) L (L.sup μ)) * g = 0 := by
    rw [mass, Finset.sum_eq_zero fun k hk => by rw [h k hk, mul_zero], zero_mul, zero_mul]
  have hD (x : EReal) : 0 < max x ε := lt_max_of_lt_right hε
  rw [mul_comm g]
  by_cases hb : L.sup μ = ⊥
  · have hk (k : ℕ) (h : k ∈ L) : μ k = ⊥ := le_bot_iff.1 (hb ▸ Finset.le_sup h)
    rw [hzero fun k h => by rw [hk k h, EReal.bot_sub, Ideal.exp_bot], Finset.sum_eq_zero, zero_mul]
    intro k h
    refine weight_zero _ ?_ (hD _)
    rw [hk k h, EReal.bot_sub, Ideal.exp_bot]
  by_cases ht : L.sup μ = ⊤
  · rw [hzero fun k h => by rw [ht, sub_top, Ideal.exp_bot]]
    have hf : ¬ max (L.sup μ) (-(L.sup μ)) < ⊤ := by rw [absf_lt_top]; exact fun h => h.1 ht
    simp only [if_neg hf, sub_zero]
    have hex : ∃ k ∈ L, μ k = ⊤ := by
      by_contra hne
      push Not at hne
      have : L.sup μ < ⊤ := (Finset.sup_lt_iff (bot_lt_top)).2 fun k hk => lt_top_iff_ne_top.2 (hne k hk)
      exact this.ne ht
    obtain ⟨k₀, hk₀, hμ⟩ := hex
    have hS : ∑ k ∈ L, Ideal.exp (μ k) = ⊤ := by
      refine le_antisymm le_top ?_
      refine le_trans ?_ (Finset.single_le_sum (fun k _ => exp_nonneg (μ k)) hk₀)
      rw [hμ, Ideal.exp_top]
    rw [hS, Finset.sum_eq_zero, zero_mul]
    intro k _
    rw [max_eq_left le_top, Ideal.div, if_neg (by simp), EReal.inv_top, mul_zero, mul_zero]
  · have hf : max (L.sup μ) (-(L.sup μ)) < ⊤ := by rw [absf_lt_top]; exact ⟨ht, hb⟩
    simp only [if_pos hf]
    obtain ⟨k₀, hk₀, hμ⟩ : ∃ k ∈ L, L.sup μ = μ k := by
      refine Finset.exists_mem_eq_sup L ?_ μ
      rw [Finset.nonempty_iff_ne_empty]; rintro rfl; exact hb Finset.sup_empty
    set S := ∑ k ∈ L, Ideal.exp (μ k - L.sup μ) with hSdef
    have h1 : 1 ≤ S := by
      refine le_trans ?_ (Finset.single_le_sum (fun k _ => exp_nonneg (μ k - L.sup μ)) hk₀)
      rw [← hμ, EReal.sub_self ht hb, ← EReal.coe_zero, Ideal.exp_coe, Real.exp_zero, EReal.coe_one]
    have hSt : S ≠ ⊤ := sum_ne_top fun k hk => exp_sub_ne_top (Finset.le_sup hk)
    have hS0 : S ≠ 0 := (lt_of_lt_of_le (by norm_num) h1).ne'
    have hm : mass μ (fun _ => 1) L (L.sup μ) = S := by rw [mass, hSdef]; simp only [one_mul]
    rw [hm, max_eq_left (hε1.trans h1)]
    have hi0 : 0 ≤ S⁻¹ := EReal.inv_nonneg_of_nonneg (le_trans (by norm_num) h1)
    have hit : S⁻¹ ≠ ⊤ := by
      lift S to ℝ using ⟨hSt, (lt_of_lt_of_le (EReal.bot_lt_coe 1) h1 : (⊥ : EReal) < S).ne'⟩ with s
      rw [← EReal.coe_inv]; exact EReal.coe_ne_top _
    congr 1
    rw [Ideal.div, if_neg hS0, one_mul, mass, mul_comm, mul_sum hi0 hit]
    refine Finset.sum_congr rfl fun k _ => ?_
    rw [Ideal.div, if_neg hS0, mul_comm, mul_assoc]

end Cert.Online

end
-- ==== Proof.PointIdeal.lean ====
/- What the kernel's stored values read at an index, over the extended reals. -/
module

public import proofs.«01_k».proof.Proof.Gen.KernelIdeal.Skeleton
public import proofs.«01_k».proof.Proof.Online
public import Idealize.ShloMosaic.Lib.Pointwise

@[expose] public section

set_option maxRecDepth 16384

noncomputable section

namespace Cert.KernelIdeal.Hand

open Idealize.ShloMosaic Idealize.ShloMosaic.TcCoe Idealize.SL.Sem
open Cert.KernelIdeal Cert.KernelIdeal.Gen

theorem neg_inf : Ideal.ofBits .f32 0xFF800000#32 = ⊥ := by
  show Ideal.ieee 8 23 0xFF800000#32 = ⊥
  unfold Ideal.ieee
  rw [if_pos (by decide), if_pos (by decide), if_pos (by decide)]

theorem mask_bot : (Named.named (F := Ideal) κ "mask" 0xF149F2CA#32 : Ideal .f32) = ⊥ := rfl

/-- A maximum over all rows is the least upper bound over an initial segment. -/
theorem fold_max {n : ℕ} (f : Fin n → EReal) (g : ℕ → EReal) (h : ∀ k, f k = g k.val) :
    Finset.univ.fold max ⊥ f = (Finset.range n).sup g := by
  have : Finset.univ.fold max ⊥ f = Finset.univ.sup f := rfl
  rw [this]
  refine le_antisymm (Finset.sup_le fun k _ => ?_) (Finset.sup_le fun k hk => ?_)
  · rw [h k]; exact Finset.le_sup (f := g) (Finset.mem_range.2 k.isLt)
  · have := h ⟨k, Finset.mem_range.1 hk⟩
    rw [← this]; exact Finset.le_sup (f := f) (Finset.mem_univ _)

theorem low_byte (c : ℕ) : (BitVec.ofNat 32 c &&& 255#32) = BitVec.ofNat 32 (c % 256) := by
  apply BitVec.eq_of_toNat_eq
  rw [BitVec.toNat_and, BitVec.toNat_ofNat, BitVec.toNat_ofNat, BitVec.toNat_ofNat, show 255 % 2 ^ 32 = 2 ^ 8 - 1 from rfl,
    Nat.and_two_pow_sub_one_eq_mod, Nat.mod_mod_of_dvd _ (by decide), Nat.mod_eq_of_lt (a := c % 256) (by omega)]

/-- A choice by a signed comparison of two small words is the choice by the numbers' order. -/
theorem select_sle {a b : ℕ} (ha : a < 8192) (hb : b < 8192) (x y : EReal) :
    (Scalar.select (IntOp.cmpi .sle (BitVec.ofNat 32 a) (BitVec.ofNat 32 b)) x y : EReal) = if a ≤ b then x else y := by
  have h : (BitVec.ofNat 32 a).sle (BitVec.ofNat 32 b) = decide (a ≤ b) := by
    rw [BitVec.sle_eq_decide, BitVec.toInt_eq_toNat_of_lt (by rw [BitVec.toNat_ofNat]; omega),
      BitVec.toInt_eq_toNat_of_lt (by rw [BitVec.toNat_ofNat]; omega), BitVec.toNat_ofNat, BitVec.toNat_ofNat,
      Nat.mod_eq_of_lt (by omega), Nat.mod_eq_of_lt (by omega)]
    simp only [Nat.cast_le]
  by_cases hab : a ≤ b <;> simp [Scalar.select, IntOp.cmpi, h, hab]

section Scores

variable (kb : FVec Ideal S512x128 .bf16) (q : FVec Ideal S128x1024 .bf16) (ρ : Fin 512) (c : Fin 1024)

theorem pay3_at : k0_pay3 (F := Ideal) kb q (ix2 ρ c) = ∑ e : Fin 128, kb (ix2 ρ e) * q (ix2 e c) := by
  pointwise [k0_pay3, k0_pay2]

theorem pay11_at : k0_pay11 (F := Ideal) kb q (ix2 ρ c) = ∑ e : Fin 128, kb (ix2 ρ e) * q (ix2 e c) := by
  pointwise [k0_pay11, k0_pay10]

theorem pay4_at : k0_pay4 (F := Ideal) kb q (ix2 0 c)
    = Finset.univ.fold max ⊥ fun ρ : Fin 512 => ∑ e : Fin 128, kb (ix2 ρ e) * q (ix2 e c) := by
  pointwise [k0_pay4, k0_pay2, neg_inf]

theorem pay12_at : k0_pay12 (F := Ideal) kb q (ix2 0 c)
    = Finset.univ.fold max ⊥ fun ρ : Fin 512 => ∑ e : Fin 128, kb (ix2 ρ e) * q (ix2 e c) := by
  pointwise [k0_pay12, k0_pay10, neg_inf]

end Scores

section Diagonal

variable (v0 w : BitVec 32) (kd : FVec Ideal S256x128 .bf16) (q : FVec Ideal S128x1024 .bf16) (ρ : Fin 256) (c : Fin 1024)

theorem pay55_at {n : ℕ} (hn : n < 8) :
    k0_pay55 (F := Ideal) (Scalar.muli (BitVec.ofNat 32 n) 512#32) (Scalar.muli (BitVec.ofNat 32 n) 512#32) (k0_pay53 kd) q (ix2 ρ c)
      = if n * 512 + ρ.val ≤ n * 512 + c.val % 256 then ∑ e : Fin 128, kd (ix2 ρ e) * q (ix2 e c) else ⊥ := by
  pointwise [k0_pay55, k0_pay54, k0_pay53, mask_bot]
  have h0 : Scalar.muli (BitVec.ofNat 32 n) 512#32 = BitVec.ofNat 32 (n * 512) := (BitVec.ofNat_mul ..).symm
  have h1 : IntOp.addi (BitVec.ofNat 32 (n * 512)) (BitVec.ofNat 32 ρ.val) = BitVec.ofNat 32 (n * 512 + ρ.val) :=
    (BitVec.ofNat_add ..).symm
  have h2 : Scalar.addi (BitVec.ofNat 32 (n * 512)) 0#32 = BitVec.ofNat 32 (n * 512) := (BitVec.ofNat_add ..).symm
  have h3 : IntOp.andi (BitVec.ofNat 32 c.val) 255#32 = BitVec.ofNat 32 (c.val % 256) := low_byte _
  have h4 : IntOp.addi (BitVec.ofNat 32 (n * 512)) (BitVec.ofNat 32 (c.val % 256)) = BitVec.ofNat 32 (n * 512 + c.val % 256) :=
    (BitVec.ofNat_add ..).symm
  rw [h0, h1, h2, h3, h4, select_sle (by omega) (by omega)]

theorem pay56_at : k0_pay56 (F := Ideal) v0 w (k0_pay53 kd) q (ix2 0 c)
    = Finset.univ.fold max ⊥ fun ρ : Fin 256 => k0_pay55 (F := Ideal) v0 w (k0_pay53 kd) q (ix2 ρ c) := by
  pointwise [k0_pay56, k0_pay55, neg_inf]

variable (i : BitVec 32) (kd2 : FVec Ideal S512x128 .bf16) (ρ2 : Fin 512)

theorem pay60_at {n : ℕ} (hn : n < 8) :
    k0_pay60 (F := Ideal) (k0_pay57 kd2 q) (k0_pay58 (BitVec.ofNat 32 n) (Scalar.muli (BitVec.ofNat 32 n) 512#32)) ⊥ (ix2 ρ2 c)
      = if n * 512 + ρ2.val ≤ n * 512 + 256 + c.val % 256 then ∑ e : Fin 128, kd2 (ix2 ρ2 e) * q (ix2 e c) else ⊥ := by
  pointwise [k0_pay60, k0_pay59, k0_pay57, k0_pay58]
  have h0 : Scalar.muli (BitVec.ofNat 32 n) 512#32 = BitVec.ofNat 32 (n * 512) := (BitVec.ofNat_mul ..).symm
  have h1 : IntOp.addi (BitVec.ofNat 32 (n * 512)) (BitVec.ofNat 32 ρ2.val) = BitVec.ofNat 32 (n * 512 + ρ2.val) :=
    (BitVec.ofNat_add ..).symm
  have h2 : Scalar.addi (BitVec.ofNat 32 (n * 512)) 256#32 = BitVec.ofNat 32 (n * 512 + 256) := (BitVec.ofNat_add ..).symm
  have h3 : IntOp.andi (BitVec.ofNat 32 c.val) 255#32 = BitVec.ofNat 32 (c.val % 256) := low_byte _
  have h4 : IntOp.addi (BitVec.ofNat 32 (n * 512 + 256)) (BitVec.ofNat 32 (c.val % 256))
      = BitVec.ofNat 32 (n * 512 + 256 + c.val % 256) := (BitVec.ofNat_add ..).symm
  rw [h0, h1, h2, h3, h4, select_sle (by omega) (by omega)]

theorem pay61_at : k0_pay61 (F := Ideal) (k0_pay57 kd2 q) (k0_pay58 i v0) ⊥ (ix2 0 c)
    = Finset.univ.fold max ⊥ fun ρ : Fin 512 => k0_pay60 (F := Ideal) (k0_pay57 kd2 q) (k0_pay58 i v0) ⊥ (ix2 ρ c) := by
  pointwise [k0_pay61, k0_pay60, neg_inf]

end Diagonal

section Accumulate

variable (m b : FVec Ideal S1x1024 .f32) (s : FVec Ideal S512x1024 .f32) (a : FVec Ideal S80x1024 .f32)
  (v : FVec Ideal S1x80x512 .bf16) (d : Fin 80) (c : Fin 1024)

theorem pay40_at : k0_pay40 (F := Ideal) (ix2 0 c) = ⊥ := by pointwise [k0_pay40, mask_bot]
theorem pay51_at : k0_pay51 (F := Ideal) (ix2 0 c) = ⊥ := by pointwise [k0_pay51, mask_bot]
theorem pay41_at : k0_pay41 (F := Ideal) (ix2 d c) = 0 := by pointwise [k0_pay41]
theorem pay52_at : k0_pay52 (F := Ideal) (ix2 d c) = 0 := by pointwise [k0_pay52]

theorem pay9_at : k0_pay9 (F := Ideal) (k0_pay5 m b) (ix2 0 c) = max (m (ix2 0 c)) (b (ix2 0 c)) := by
  pointwise [k0_pay9, k0_pay5]

theorem pay66_at : k0_pay66 (F := Ideal) (k0_pay13 m b) (ix2 0 c) = max (m (ix2 0 c)) (b (ix2 0 c)) := by
  pointwise [k0_pay66, k0_pay13]

theorem pay64_at : k0_pay64 (F := Ideal) m b (ix2 0 c) = max (m (ix2 0 c)) (b (ix2 0 c)) := by
  pointwise [k0_pay64, k0_pay62]

theorem pay8_at : k0_pay8 (F := Ideal) (k0_pay6 m b s) (k0_pay7 m b a) v (ix2 d c)
    = Ideal.exp (m (ix2 0 c) - max (m (ix2 0 c)) (b (ix2 0 c))) * a (ix2 d c)
      + ∑ ρ : Fin 512, v (ix3 0 d ρ) * Ideal.exp (s (ix2 ρ c) - max (m (ix2 0 c)) (b (ix2 0 c))) := by
  pointwise [k0_pay8, k0_pay6, k0_pay7, k0_pay5]

theorem pay65_at : k0_pay65 (F := Ideal) m (k0_pay13 m b) (k0_pay14 m b s) a v (ix2 d c)
    = Ideal.exp (m (ix2 0 c) - max (m (ix2 0 c)) (b (ix2 0 c))) * a (ix2 d c)
      + ∑ ρ : Fin 512, v (ix3 0 d ρ) * Ideal.exp (s (ix2 ρ c) - max (m (ix2 0 c)) (b (ix2 0 c))) := by
  pointwise [k0_pay65, k0_pay13, k0_pay14]

theorem pay70_at : k0_pay70 (F := Ideal) m b s a v (ix2 d c)
    = Ideal.exp (m (ix2 0 c) - max (m (ix2 0 c)) (b (ix2 0 c))) * a (ix2 d c)
      + ∑ ρ : Fin 512, v (ix3 0 d ρ) * Ideal.exp (s (ix2 ρ c) - max (m (ix2 0 c)) (b (ix2 0 c))) := by
  pointwise [k0_pay70, k0_pay69]

variable (s' : FVec Ideal S256x1024 .f32) (v' : FVec Ideal S1x80x256 .bf16)

theorem pay63_at : k0_pay63 (F := Ideal) m b s' a v' (ix2 d c)
    = Ideal.exp (m (ix2 0 c) - max (m (ix2 0 c)) (b (ix2 0 c))) * a (ix2 d c)
      + ∑ ρ : Fin 256, v' (ix3 0 d ρ) * Ideal.exp (s' (ix2 ρ c) - max (m (ix2 0 c)) (b (ix2 0 c))) := by
  pointwise [k0_pay63, k0_pay62]

end Accumulate

end Cert.KernelIdeal.Hand

end
-- ==== Proof.EntryIdeal.lean ====
/- The blocks the kernel receives, read at an index in terms of the arguments: what the host prepared (scaled queries, keys with their
   block's unit vector, values with a row of ones, the flags of the selection, the gate's logits) and where each grid point's block lies. -/
module

public import proofs.«01_k».proof.Proof.PointIdeal
public import proofs.«01_k».proof.Proof.FrameKernelIdeal
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ) (c : Dev nD)

abbrev argQ : FVec Ideal S8x4096x1024 .f32 := m ((c : Thread nD τ).loc main_arg0)
abbrev argK : FVec Ideal S8x4096x4x64 .f32 := m ((c : Thread nD τ).loc main_arg1)
abbrev argV : FVec Ideal S8x4096x4x64 .f32 := m ((c : Thread nD τ).loc main_arg2)
abbrev argS : IVec S8x4x4096x64 32 := m ((c : Thread nD τ).loc main_arg3)
abbrev argG : FVec Ideal S8x4096x48 .f32 := m ((c : Thread nD τ).loc main_arg4)
abbrev argB : FVec Ideal S48 .f32 := m ((c : Thread nD τ).loc main_arg5)

/-- The rounding quotient by 64 of a small word, as the host computes it. -/
theorem quot64 : ∀ x : Fin 4096, (Scalar.select
    (IntOp.andi
      (IntOp.cmpi CmpIPredicate.ne
        (if BitVec.ofNat 32 x.val = 0 then 0 else if (BitVec.ofNat 32 x.val).msb = true then -1 else 1)
        (if 64#32 = 0 then (0 : BitVec 32) else if (64#32).msb = true then -1 else 1))
      (IntOp.cmpi CmpIPredicate.ne (IntOp.remsi ArithUnit.host (BitVec.ofNat 32 x.val) 64#32) 0#32))
    (IntOp.subi (IntOp.divsi ArithUnit.host (BitVec.ofNat 32 x.val) 64#32) 1#32)
    (IntOp.divsi ArithUnit.host (BitVec.ofNat 32 x.val) 64#32) : BitVec 32) = BitVec.ofNat 32 (x.val / 64) := by
  decide +kernel

theorem select_eq {a b : ℕ} (ha : a < 4096) (hb : b < 4096) (x y : EReal) :
    (Scalar.select (IntOp.cmpi .eq (BitVec.ofNat 32 a) (BitVec.ofNat 32 b)) x y : EReal) = if a = b then x else y := by
  have h : BitVec.ofNat 32 a = BitVec.ofNat 32 b ↔ a = b := by
    rw [← BitVec.toNat_inj, BitVec.toNat_ofNat, BitVec.toNat_ofNat, Nat.mod_eq_of_lt (by omega), Nat.mod_eq_of_lt (by omega)]
  by_cases hab : a = b
  · simp [Scalar.select, IntOp.cmpi, hab]
  · have h' : (BitVec.ofNat 32 a == BitVec.ofNat 32 b) = false := by rw [beq_eq_false_iff_ne]; exact fun e => hab (h.1 e)
    simp [Scalar.select, IntOp.cmpi, h', hab]

theorem select_ne (w : BitVec 32) (x y : EReal) :
    (Scalar.select (IntOp.cmpi .ne w 0#32) x y : EReal) = if w ≠ 0 then x else y := by
  by_cases h : w = 0
  · simp [Scalar.select, IntOp.cmpi, h]
  · have h' : (w != 0#32) = true := by rw [bne_iff_ne]; exact h
    rw [if_pos h]; simp [Scalar.select, IntOp.cmpi, h']

theorem entry_q (h : Fin 16) (d : Fin 64) (n : Fin 32768) :
    (V m c main_v4 : FVec Ideal S16x64x32768 .bf16) (ix3 h d n)
      = argQ m c (ix3 ⟨n.val / 4096, by omega⟩ ⟨n.val % 4096, by omega⟩ ⟨h.val * 64 + d.val, by omega⟩) * Ideal.ofBits .f32 0x3E000000#32 := by
  unfold V
  simp only [hostOps0, hostOps0_1, hostOps0_2, hostOps0_3, hostOps0_4, hostOps0_5, hostOps0_6, hostOps0_7, hostOps0_8, hostOps0_9, hostOps0_10,
    List.flatten_cons, List.flatten_nil, List.cons_append, List.nil_append, List.append_nil]
  entry_read
  pointwise

theorem entry_k (n : Fin 32768) (e : Fin 512) :
    (V m c main_v13 : FVec Ideal S32768x512 .bf16) (ix2 n e)
      = if h : e.val % 128 < 64 then
          argK m c (ix4 ⟨n.val / 4096, by omega⟩ ⟨n.val % 4096, by omega⟩ ⟨e.val / 128, by omega⟩ ⟨e.val % 128, by omega⟩)
        else if e.val % 128 - 64 = n.val % 4096 / 64 then 1 else 0 := by
  unfold V
  simp only [hostOps0, hostOps0_1, hostOps0_2, hostOps0_3, hostOps0_4, hostOps0_5, hostOps0_6, hostOps0_7, hostOps0_8, hostOps0_9, hostOps0_10,
    List.flatten_cons, List.flatten_nil, List.cons_append, List.nil_append, List.append_nil]
  entry_read
  simp -implicitDefEqProofs only [StableHlo.TRef.toBuf, StableHlo.TRef.ofBuf, cast_cast, cast_eq]
  pointwise
  by_cases h : e.val % 128 < 64
  · rw [dif_pos h, dif_pos h]
  · rw [dif_neg h, dif_neg h]
    refine Eq.trans (congrArg (fun w => Scalar.select (IntOp.cmpi .eq (BitVec.ofNat 32 (e.val % 128 - 64)) w) (1 : EReal) 0)
      (quot64 ⟨n.val % 4096, by omega⟩)) ?_
    exact select_eq (by omega) (by dsimp only; omega) 1 0

set_option maxHeartbeats 1600000 in
theorem entry_v (g : Fin 4) (d : Fin 80) (n : Fin 32768) :
    (V m c main_v20 : FVec Ideal S4x80x32768 .bf16) (ix3 g d n)
      = if h : d.val < 64 then argV m c (ix4 ⟨n.val / 4096, by omega⟩ ⟨n.val % 4096, by omega⟩ g ⟨d.val, h⟩)
        else if d.val - 64 < 1 then (1 : EReal) else 0 := by
  unfold V
  simp only [hostOps0, hostOps0_1, hostOps0_2, hostOps0_3, hostOps0_4, hostOps0_5, hostOps0_6, hostOps0_7, hostOps0_8, hostOps0_9, hostOps0_10,
    List.flatten_cons, List.flatten_nil, List.cons_append, List.nil_append, List.append_nil]
  entry_read
  pointwise
  rfl

theorem entry_s (b : Fin 8) (g : Fin 4) (s : Fin 64) (t : Fin 4096) :
    (V m c main_v25 : FVec Ideal S8x4x64x4096 .bf16) (ix4 b g s t) = if argS m c (ix4 b g t s) ≠ 0 then (1 : EReal) else 0 := by
  unfold V
  simp only [hostOps0, hostOps0_1, hostOps0_2, hostOps0_3, hostOps0_4, hostOps0_5, hostOps0_6, hostOps0_7, hostOps0_8, hostOps0_9, hostOps0_10,
    List.flatten_cons, List.flatten_nil, List.cons_append, List.nil_append, List.append_nil]
  entry_read
  simp -implicitDefEqProofs only [StableHlo.TRef.toBuf, StableHlo.TRef.ofBuf, cast_cast, cast_eq]
  pointwise
  exact select_ne _ 1 0

theorem entry_g (g : Fin 4) (x : Fin 3) (r : Fin 8) (n : Fin 32768) (h : r.val < 4) :
    (V m c main_v28 : FVec Ideal S4x3x8x32768 .f32) (ix4 g x r n)
      = argG m c (ix3 ⟨n.val / 4096, by omega⟩ ⟨n.val % 4096, by omega⟩ ⟨g.val * 12 + r.val * 3 + x.val, by omega⟩) := by
  unfold V
  simp only [hostOps0, hostOps0_1, hostOps0_2, hostOps0_3, hostOps0_4, hostOps0_5, hostOps0_6, hostOps0_7, hostOps0_8, hostOps0_9, hostOps0_10,
    List.flatten_cons, List.flatten_nil, List.cons_append, List.nil_append, List.append_nil]
  entry_read
  simp -implicitDefEqProofs only [StableHlo.TRef.toBuf, StableHlo.TRef.ofBuf, cast_cast, cast_eq]
  pointwise
  exact dif_pos h

theorem entry_b (g : Fin 4) (x : Fin 3) (r : Fin 8) (h : r.val < 4) :
    (V m c main_v32 : FVec Ideal S4x3x8x1 .f32) (ix4 g x r 0) = argB m c (ix1 ⟨g.val * 12 + r.val * 3 + x.val, by omega⟩) := by
  unfold V
  simp only [hostOps0, hostOps0_1, hostOps0_2, hostOps0_3, hostOps0_4, hostOps0_5, hostOps0_6, hostOps0_7, hostOps0_8, hostOps0_9, hostOps0_10,
    List.flatten_cons, List.flatten_nil, List.cons_append, List.nil_append, List.append_nil]
  entry_read
  simp -implicitDefEqProofs only [StableHlo.TRef.toBuf, StableHlo.TRef.ofBuf, cast_cast, cast_eq]
  pointwise
  exact dif_pos h

/-- Where each grid point's blocks lie. -/
theorem idx : ∀ t : Fin cfg0.N,
    win0_0.index t = ![t.val / 8 % 4, 0, t.val / 32 * 8 + t.val % 8]
      ∧ win0_1.index t = ![t.val / 32, t.val / 8 % 4]
      ∧ win0_2.index t = ![t.val / 8 % 4, 0, t.val / 32]
      ∧ win0_3.index t = ![t.val / 32, t.val / 8 % 4, 0, t.val % 8]
      ∧ win0_4.index t = ![t.val / 8 % 4, 1, 0, t.val / 32 * 8 + t.val % 8]
      ∧ win0_5.index t = ![t.val / 8 % 4, 1, 0, 0]
      ∧ win0_6.index t = ![t.val / 8 % 4, 0, t.val / 32 * 8 + t.val % 8]
      ∧ (grid0.coords t 2).val = t.val % 8 := (by decide +kernel : ∀ t : Fin grid0.N, _)

theorem point_lt (t : Fin cfg0.N) : t.val < 256 := lt_of_lt_of_eq t.isLt N_0

/-- The batch entry, the group and the tile of queries of a grid point. -/
def batch (t : Fin cfg0.N) : Fin 8 := ⟨t.val / 32, by have := point_lt t; omega⟩
def group (t : Fin cfg0.N) : Fin 4 := ⟨t.val / 8 % 4, by omega⟩
def tile (t : Fin cfg0.N) : Fin 8 := ⟨t.val % 8, by omega⟩

variable (t : Fin cfg0.N)

theorem blk_q (r : Fin 4) (d : Fin 64) (l : Fin 512) :
    (iblk m c 0 t : FVec Ideal S4x64x512 .bf16) (ix3 r d l)
      = argQ m c (ix3 (batch t) ⟨(tile t).val * 512 + l.val, by omega⟩ ⟨((group t).val * 4 + r.val) * 64 + d.val, by omega⟩)
        * Ideal.ofBits .f32 0x3E000000#32 := by
  have ht := point_lt t
  refine Eq.trans ?_ ((entry_q m c ⟨(group t).val * 4 + r.val, by omega⟩ d
    ⟨((batch t).val * 8 + (tile t).val) * 512 + l.val, by omega⟩).trans ?_)
  · blk_ext [iblk, idx t, batch, group, tile]
  · refine congrArg₂ (· * ·) (congrArg _ ?_) rfl
    blk_ext [batch, group, tile]

theorem blk_k (κ : Fin 4096) (e : Fin 128) :
    (iblk m c 1 t : FVec Ideal S4096x128 .bf16) (ix2 κ e)
      = if h : e.val < 64 then argK m c (ix4 (batch t) κ (group t) ⟨e.val, h⟩)
        else if e.val - 64 = κ.val / 64 then (1 : EReal) else 0 := by
  have ht := point_lt t
  refine Eq.trans ?_ ((entry_k m c ⟨(batch t).val * 4096 + κ.val, by omega⟩ ⟨(group t).val * 128 + e.val, by omega⟩).trans ?_)
  · blk_ext [iblk, idx t, batch, group, tile]
  · have h1 : ((group t).val * 128 + e.val) % 128 = e.val := by omega
    have h2 : ((batch t).val * 4096 + κ.val) % 4096 = κ.val := by omega
    by_cases h : e.val < 64
    · refine (dif_pos (h1.trans_lt h)).trans (Eq.trans ?_ (dif_pos h).symm)
      refine congrArg _ ?_
      blk_ext [batch, group, tile]
    · refine (dif_neg (fun h' => h (h1.symm.trans_lt h'))).trans (Eq.trans ?_ (dif_neg h).symm)
      exact if_congr (by dsimp only; rw [h1, h2]) rfl rfl

theorem blk_s (s : Fin 64) (l : Fin 512) :
    (iblk m c 3 t : FVec Ideal S1x1x64x512 .bf16) (ix4 0 0 s l)
      = if argS m c (ix4 (batch t) (group t) ⟨(tile t).val * 512 + l.val, by omega⟩ s) ≠ 0 then (1 : EReal) else 0 := by
  have ht := point_lt t
  refine Eq.trans ?_ (entry_s m c (batch t) (group t) s ⟨(tile t).val * 512 + l.val, by omega⟩)
  blk_ext [iblk, idx t, batch, group, tile]

theorem blk_g (r : Fin 8) (l : Fin 512) (h : r.val < 4) :
    (iblk m c 4 t : FVec Ideal S1x1x8x512 .f32) (ix4 0 0 r l)
      = argG m c (ix3 (batch t) ⟨(tile t).val * 512 + l.val, by omega⟩ ⟨(group t).val * 12 + r.val * 3 + 1, by omega⟩) := by
  have ht := point_lt t
  refine Eq.trans ?_ ((entry_g m c (group t) 1 r ⟨((batch t).val * 8 + (tile t).val) * 512 + l.val, by omega⟩ h).trans ?_)
  · blk_ext [iblk, idx t, batch, group, tile]
  · refine congrArg _ ?_
    blk_ext [batch, group, tile]

theorem blk_b (r : Fin 8) (h : r.val < 4) :
    (iblk m c 5 t : FVec Ideal S1x1x8x1 .f32) (ix4 0 0 r 0)
      = argB m c (ix1 ⟨(group t).val * 12 + r.val * 3 + 1, by omega⟩) := by
  have ht := point_lt t
  refine Eq.trans ?_ (entry_b m c (group t) 1 r h)
  blk_ext [iblk, idx t, batch, group, tile]

end Cert.KernelIdeal.Hand

end
-- ==== Proof.EntryValue.lean ====
/- The values' block, read at an index in terms of the arguments. -/
module

public import proofs.«01_k».proof.Proof.EntryIdeal

@[expose] public section

set_option maxRecDepth 16384

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

theorem pick_v (v : FVec Ideal S8x4096x4x64 .f32) (d : Fin 80) (κ : Fin 4096) (b : Fin 8) (g : Fin 4) (n : Fin 32768) (hn : n.val = b.val * 4096 + κ.val) :
    (if h : d.val < 64 then v (ix4 ⟨n.val / 4096, by omega⟩ ⟨n.val % 4096, by omega⟩ g ⟨d.val, h⟩)
        else if d.val - 64 < 1 then (1 : EReal) else 0)
      = if h : d.val < 64 then v (ix4 b κ g ⟨d.val, h⟩) else if d.val - 64 < 1 then (1 : EReal) else 0 := by
  have h1 : (⟨n.val / 4096, by omega⟩ : Fin 8) = b := Fin.ext (by dsimp only; omega)
  have h2 : (⟨n.val % 4096, by omega⟩ : Fin 4096) = κ := Fin.ext (by dsimp only; omega)
  rw [h1, h2]

theorem read_v (X : FVec Ideal S4x80x32768 .bf16) (d : Fin 80) (κ : Fin 4096) (n : Fin 32768) (hn : n.val = (batch t).val * 4096 + κ.val) :
    (((cfg0.win 2).blk t).view.read (Elt Ideal) X : FVec Ideal S1x80x4096 .bf16) (ix3 0 d κ) = X (ix3 (group t) d n) := by
  have ht := point_lt t
  have hb : (batch t).val = t.val / 32 := rfl
  have hg : (group t).val = t.val / 8 % 4 := rfl
  blk_ext [idx t]

theorem iblk_v : (iblk m c 2 t : FVec Ideal S1x80x4096 .bf16)
    = ((cfg0.win 2).blk t).view.read (Elt Ideal) (V m c main_v20 : FVec Ideal S4x80x32768 .bf16) := by
  unfold iblk
  with_reducible rfl

theorem blk_v (d : Fin 80) (κ : Fin 4096) :
    (iblk m c 2 t : FVec Ideal S1x80x4096 .bf16) (ix3 0 d κ)
      = if h : d.val < 64 then argV m c (ix4 (batch t) κ (group t) ⟨d.val, h⟩)
        else if d.val - 64 < 1 then (1 : EReal) else 0 := by
  have hn : ((⟨(batch t).val * 4096 + κ.val, by omega⟩ : Fin 32768).val) = (batch t).val * 4096 + κ.val := rfl
  rw [iblk_v, read_v t _ d κ _ hn, entry_v, pick_v (argV m c) d κ (batch t) (group t) _ hn]

end Cert.KernelIdeal.Hand

end
-- ==== Proof.AugIdeal.lean ====
/- The augmented queries of a grid point, read at an index: 64 rows of scaled queries above 64 rows of the selection's bias. -/
module

public import proofs.«01_k».proof.Proof.EntryValue

@[expose] public section

set_option maxRecDepth 16384

noncomputable section

namespace Cert.KernelIdeal.Hand

open Idealize.ShloMosaic Idealize.ShloMosaic.TcCoe Idealize.SL.Sem
open Cert.KernelIdeal Cert.KernelIdeal.Gen

variable (x3 : FVec Ideal S4x64x512 .bf16) (x6 : FVec Ideal S1x1x64x512 .bf16)

/-- The bias of a flag: nothing where the block is selected, the mask where it is not. -/
def bias (x : EReal) : EReal := if x ≠ 0 then 0 else ⊥

theorem aug0_read (y : S128x1024.Idx) : aug0 (F := Ideal) x3 x6 y
    = if h : (y 0).val < 64 then x3 (ix3 ⟨(y 1).val / 256, by have := (y 1).isLt; change (y 1).val < 1024 at this; omega⟩ ⟨(y 0).val, h⟩ ⟨(y 1).val % 256, by omega⟩)
      else bias (x6 (ix4 0 0 ⟨(y 0).val - 64, by have := (y 0).isLt; change (y 0).val < 128 at this; omega⟩ ⟨(y 1).val % 256, by omega⟩)) := by
  unfold aug0 augL0
  canon_tiles x h
  case piece0 =>
    rw [dif_neg (by omega)]
    pointwise [k0_pay39, k0_pay38, k0_pay37, mask_bot]
    unfold bias
    congr 2
    blk_ext
  case piece1 =>
    rw [dif_pos (by omega)]
    pointwise [k0_pay36]
    blk_ext
  case piece2 =>
    rw [dif_neg (by omega)]
    pointwise [k0_pay35, mask_bot]
    unfold bias
    congr 2
    blk_ext
  case piece3 =>
    rw [dif_pos (by omega)]
    pointwise [k0_pay34]
    blk_ext
  case piece4 =>
    rw [dif_neg (by omega)]
    pointwise [k0_pay33, k0_pay31, k0_pay32, mask_bot]
    unfold bias
    congr 2
    blk_ext
  case piece5 =>
    rw [dif_pos (by omega)]
    pointwise [k0_pay30]
    blk_ext
  case piece6 =>
    rw [dif_neg (by omega)]
    pointwise [k0_pay29, mask_bot]
    unfold bias
    congr 2
    blk_ext
  case piece7 =>
    rw [dif_pos (by omega)]
    pointwise [k0_pay28]
    blk_ext

theorem aug1_read (y : S128x1024.Idx) : aug1 (F := Ideal) x3 x6 y
    = if h : (y 0).val < 64 then x3 (ix3 ⟨(y 1).val / 256, by have := (y 1).isLt; change (y 1).val < 1024 at this; omega⟩ ⟨(y 0).val, h⟩ ⟨(y 1).val % 256 + 256, by omega⟩)
      else bias (x6 (ix4 0 0 ⟨(y 0).val - 64, by have := (y 0).isLt; change (y 0).val < 128 at this; omega⟩ ⟨(y 1).val % 256 + 256, by omega⟩)) := by
  unfold aug1 augL1
  canon_tiles x h
  case piece0 =>
    rw [dif_neg (by omega)]
    pointwise [k0_pay50, mask_bot]
    unfold bias
    congr 2
    blk_ext
  case piece1 =>
    rw [dif_pos (by omega)]
    pointwise [k0_pay49]
    blk_ext
  case piece2 =>
    rw [dif_neg (by omega)]
    pointwise [k0_pay48, k0_pay47, mask_bot]
    unfold bias
    congr 2
    blk_ext
  case piece3 =>
    rw [dif_pos (by omega)]
    pointwise [k0_pay46]
    blk_ext
  case piece4 =>
    rw [dif_neg (by omega)]
    pointwise [k0_pay45, mask_bot]
    unfold bias
    congr 2
    blk_ext
  case piece5 =>
    rw [dif_pos (by omega)]
    pointwise [k0_pay44]
    blk_ext
  case piece6 =>
    rw [dif_neg (by omega)]
    pointwise [k0_pay43, mask_bot]
    unfold bias
    congr 2
    blk_ext
  case piece7 =>
    rw [dif_pos (by omega)]
    pointwise [k0_pay42]
    blk_ext

end Cert.KernelIdeal.Hand

end
-- ==== Proof.OutIdeal.lean ====
/- The block stored at a grid point, read at an index. -/
module

public import proofs.«01_k».proof.Proof.EntryValue

@[expose] public section

set_option maxRecDepth 16384

noncomputable section

namespace Cert.KernelIdeal.Hand

open Idealize.ShloMosaic Idealize.ShloMosaic.TcCoe Idealize.SL.Sem
open Cert.KernelIdeal Cert.KernelIdeal.Gen

variable (x7 : FVec Ideal S1x1x8x512 .f32) (x8 : FVec Ideal S1x1x8x1 .f32) (a0 a1 : FVec Ideal S80x1024 .f32)

/-- An output: a numerator over its denominator, times the gate of its query. -/
def ratio (a b x y : EReal) : EReal := a * Ideal.div 1 b * Ideal.logistic (x + y)

theorem out_read (y : S4x64x512.Idx) : View.canon (outL (F := Ideal) x7 x8 a0 a1) y
    = ratio
        ((if (y 2).val < 256 then a0 else a1) (ix2 ⟨(y 1).val, by have := (y 1).isLt; change (y 1).val < 64 at this; omega⟩ ⟨(y 0).val * 256 + (y 2).val % 256, by have := (y 0).isLt; change (y 0).val < 4 at this; omega⟩))
        ((if (y 2).val < 256 then a0 else a1) (ix2 64 ⟨(y 0).val * 256 + (y 2).val % 256, by have := (y 0).isLt; change (y 0).val < 4 at this; omega⟩))
        (x7 (ix4 0 0 ⟨(y 0).val, by have := (y 0).isLt; change (y 0).val < 4 at this; omega⟩ (y 2)))
        (x8 (ix4 0 0 ⟨(y 0).val, by have := (y 0).isLt; change (y 0).val < 4 at this; omega⟩ 0)) := by
  unfold outL
  canon_tiles x h
  case piece0 =>
    rw [if_neg (by omega)]
    pointwise [k0_pay1, k0_pay81, k0_pay72]
    unfold ratio
    blk_point []
  case piece1 =>
    rw [if_neg (by omega)]
    pointwise [k0_pay80, k0_pay72]
    unfold ratio
    blk_point []
  case piece2 =>
    rw [if_neg (by omega)]
    pointwise [k0_pay79, k0_pay72]
    unfold ratio
    blk_point []
  case piece3 =>
    rw [if_neg (by omega)]
    pointwise [k0_pay78, k0_pay77, k0_pay72]
    unfold ratio
    blk_point []
  case piece4 =>
    rw [if_pos (by omega)]
    pointwise [k0_pay76, k0_pay72]
    unfold ratio
    blk_point []
  case piece5 =>
    rw [if_pos (by omega)]
    pointwise [k0_pay75, k0_pay72]
    unfold ratio
    blk_point []
  case piece6 =>
    rw [if_pos (by omega)]
    pointwise [k0_pay74, k0_pay72]
    unfold ratio
    blk_point []
  case piece7 =>
    rw [if_pos (by omega)]
    pointwise [k0_pay73, k0_pay72]
    unfold ratio
    blk_point []

end Cert.KernelIdeal.Hand

end
-- ==== Proof.LoadIdeal.lean ====
/- The loop's trips and the rows and lanes its loads read, in plain numbers. -/
module

public import proofs.«01_k».proof.Proof.EntryValue

@[expose] public section

set_option maxRecDepth 16384

noncomputable section

namespace Cert.KernelIdeal.Hand

open Idealize.ShloMosaic Idealize.ShloMosaic.TcCoe Idealize.SL.Sem
open Cert.KernelIdeal Cert.KernelIdeal.Gen

variable (i : grid0.Coords)

theorem tile_lt : (i 2).val < 8 := (i 2).isLt

theorem trips_word : ∀ n : Fin 8, (Scf.Loop.trips ⟨0#32, Scalar.addi 0#32 (Scalar.muli (Scalar.divsi (Scalar.subi (BitVec.ofNat 32 n.val) 0#32) 1#32) 1#32), 1#32⟩) = n.val := by
  decide +kernel

theorem trips_eq : (k0_t1_loop i).trips = (i 2).val := trips_word ⟨(i 2).val, tile_lt i⟩

theorem tile_word : ∀ n : Fin 8, (Scalar.indexCast (Scalar.muli (BitVec.ofNat 32 n.val) 512#32) : Index).toNat = n.val * 512 := by decide +kernel

theorem block_word : ∀ k : Fin 8, (Scalar.indexCast (Scalar.muli (BitVec.ofNat 32 0 + BitVec.ofNat 32 1 * BitVec.ofNat 32 k.val) 512#32) : Index).toNat = k.val * 512 := by decide +kernel

theorem off1_eq : k0_off1 i = ![(i 2).val * 512, 0] := by
  rw [← tile_word ⟨(i 2).val, tile_lt i⟩]; rfl
theorem off2_eq : k0_off2 i = ![(i 2).val * 512, 0] := by
  rw [← tile_word ⟨(i 2).val, tile_lt i⟩]; rfl
theorem off3_eq : k0_off3 i = ![0, 0, (i 2).val * 512] := by
  rw [← tile_word ⟨(i 2).val, tile_lt i⟩]; rfl

variable (k : Fin (k0_t1_loop i).trips)

theorem trip_lt : k.val < 8 := lt_trans (lt_of_lt_of_eq k.isLt (trips_eq i)) (tile_lt i)

theorem off4_word : ∀ k : Fin 8, (Scalar.indexCast (Scalar.muli (Scf.iv 0#32 1#32 k) 512#32) : Index).toNat = k.val * 512 := by decide +kernel

theorem prev_word : ∀ n k : Fin 8, (Scalar.indexCast (Scalar.muli (Scalar.select (Scalar.cmpi .eq (Scf.iv 0#32 1#32 k) 0#32) (BitVec.ofNat 32 n.val)
    (Scalar.subi (Scf.iv 0#32 1#32 k) 1#32)) 512#32) : Index).toNat = (if k.val = 0 then n.val else k.val - 1) * 512 := by decide +kernel

theorem last_word : ∀ n : Fin 8, (Scalar.indexCast (Scalar.muli (Scalar.select (Scalar.cmpi .eq (BitVec.ofNat 32 n.val) 0#32) (BitVec.ofNat 32 n.val)
    (Scalar.subi (BitVec.ofNat 32 n.val) 1#32)) 512#32) : Index).toNat = (if n.val = 0 then n.val else n.val - 1) * 512 := by decide +kernel

theorem off4_eq : k0_off4 i k = ![k.val * 512, 0] := by
  rw [← off4_word ⟨k.val, trip_lt i k⟩]; rfl
theorem off5_eq : k0_off5 i k = ![0, 0, (if k.val = 0 then (i 2).val else k.val - 1) * 512] := by
  rw [← prev_word ⟨(i 2).val, tile_lt i⟩ ⟨k.val, trip_lt i k⟩]; rfl
theorem off6_eq : k0_off6 i k = ![0, 0, k.val * 512] := by
  rw [← off4_word ⟨k.val, trip_lt i k⟩]; rfl
theorem off10_eq : k0_off10 i = ![0, 0, (if (i 2).val = 0 then (i 2).val else (i 2).val - 1) * 512] := by
  rw [← last_word ⟨(i 2).val, tile_lt i⟩]; rfl

variable (x4 : FVec Ideal S4096x128 .bf16) (x5 : FVec Ideal S1x80x4096 .bf16)

theorem keyDiag0_at (ρ : Fin 256) (e : Fin 128) (r : Fin 4096) (hr : r.val = (i 2).val * 512 + ρ.val) :
    keyDiag0 (F := Ideal) i x4 (ix2 ρ e) = x4 (ix2 r e) := by
  have h0 := congrFun (off1_eq i) 0
  have h1 := congrFun (off1_eq i) 1
  unfold keyDiag0
  refine View.ld_unit_apply_of (S := S4096x128) (Val := Elt Ideal) (e := .bf16) x4 (k0_off1 i) S256x128.size (k0_off1_inb i) (ix2 ρ e) (ix2 r e) fun a => ?_
  fin_cases a
  · exact hr.trans (congrArg (· + ρ.val) h0.symm)
  · exact (Nat.zero_add _).symm.trans (congrArg (· + e.val) h1.symm)

theorem keyDiag1_at (ρ : Fin 512) (e : Fin 128) (r : Fin 4096) (hr : r.val = (i 2).val * 512 + ρ.val) :
    keyDiag1 (F := Ideal) i x4 (ix2 ρ e) = x4 (ix2 r e) := by
  have h0 := congrFun (off2_eq i) 0
  have h1 := congrFun (off2_eq i) 1
  unfold keyDiag1
  refine View.ld_unit_apply_of (S := S4096x128) (Val := Elt Ideal) (e := .bf16) x4 (k0_off2 i) S512x128.size (k0_off2_inb i) (ix2 ρ e) (ix2 r e) fun a => ?_
  fin_cases a
  · exact hr.trans (congrArg (· + ρ.val) h0.symm)
  · exact (Nat.zero_add _).symm.trans (congrArg (· + e.val) h1.symm)

theorem keyBlk_at (ρ : Fin 512) (e : Fin 128) (r : Fin 4096) (hr : r.val = k.val * 512 + ρ.val) :
    keyBlk (F := Ideal) i k x4 (ix2 ρ e) = x4 (ix2 r e) := by
  have h0 := congrFun (off4_eq i k) 0
  have h1 := congrFun (off4_eq i k) 1
  unfold keyBlk
  refine View.ld_unit_apply_of (S := S4096x128) (Val := Elt Ideal) (e := .bf16) x4 (k0_off4 i k) S512x128.size (k0_off4_inb i k) (ix2 ρ e) (ix2 r e) fun a => ?_
  fin_cases a
  · exact hr.trans (congrArg (· + ρ.val) h0.symm)
  · exact (Nat.zero_add _).symm.trans (congrArg (· + e.val) h1.symm)

theorem valDiag0_at (d : Fin 80) (ρ : Fin 256) (r : Fin 4096) (hr : r.val = (i 2).val * 512 + ρ.val) :
    valDiag0 (F := Ideal) i x5 (ix3 0 d ρ) = x5 (ix3 0 d r) := by
  have h0 := congrFun (off3_eq i) 0
  have h1 := congrFun (off3_eq i) 1
  have h2 := congrFun (off3_eq i) 2
  unfold valDiag0
  refine View.ld_unit_apply_of (S := S1x80x4096) (Val := Elt Ideal) (e := .bf16) x5 (k0_off3 i) S1x80x256.size (k0_off3_inb i) (ix3 0 d ρ) (ix3 0 d r) fun a => ?_
  fin_cases a
  · exact (Nat.zero_add _).symm.trans (congrArg (· + 0) h0.symm)
  · exact (Nat.zero_add _).symm.trans (congrArg (· + d.val) h1.symm)
  · exact hr.trans (congrArg (· + ρ.val) h2.symm)

theorem valPrev_at (d : Fin 80) (ρ : Fin 512) (r : Fin 4096) (hr : r.val = (if k.val = 0 then (i 2).val else k.val - 1) * 512 + ρ.val) :
    valPrev (F := Ideal) i k x5 (ix3 0 d ρ) = x5 (ix3 0 d r) := by
  have h0 := congrFun (off5_eq i k) 0
  have h1 := congrFun (off5_eq i k) 1
  have h2 := congrFun (off5_eq i k) 2
  unfold valPrev
  refine View.ld_unit_apply_of (S := S1x80x4096) (Val := Elt Ideal) (e := .bf16) x5 (k0_off5 i k) S1x80x512.size (k0_off5_inb i k) (ix3 0 d ρ) (ix3 0 d r) fun a => ?_
  fin_cases a
  · exact (Nat.zero_add _).symm.trans (congrArg (· + 0) h0.symm)
  · exact (Nat.zero_add _).symm.trans (congrArg (· + d.val) h1.symm)
  · exact hr.trans (congrArg (· + ρ.val) h2.symm)

theorem valBlk_at (d : Fin 80) (ρ : Fin 512) (r : Fin 4096) (hr : r.val = k.val * 512 + ρ.val) :
    valBlk (F := Ideal) i k x5 (ix3 0 d ρ) = x5 (ix3 0 d r) := by
  have h0 := congrFun (off6_eq i k) 0
  have h1 := congrFun (off6_eq i k) 1
  have h2 := congrFun (off6_eq i k) 2
  unfold valBlk
  refine View.ld_unit_apply_of (S := S1x80x4096) (Val := Elt Ideal) (e := .bf16) x5 (k0_off6 i k) S1x80x512.size (k0_off6_inb i k) (ix3 0 d ρ) (ix3 0 d r) fun a => ?_
  fin_cases a
  · exact (Nat.zero_add _).symm.trans (congrArg (· + 0) h0.symm)
  · exact (Nat.zero_add _).symm.trans (congrArg (· + d.val) h1.symm)
  · exact hr.trans (congrArg (· + ρ.val) h2.symm)

theorem valLast_at (d : Fin 80) (ρ : Fin 512) (r : Fin 4096) (hr : r.val = (if (i 2).val = 0 then (i 2).val else (i 2).val - 1) * 512 + ρ.val) :
    valLast (F := Ideal) i x5 (ix3 0 d ρ) = x5 (ix3 0 d r) := by
  have h0 := congrFun (off10_eq i) 0
  have h1 := congrFun (off10_eq i) 1
  have h2 := congrFun (off10_eq i) 2
  unfold valLast
  refine View.ld_unit_apply_of (S := S1x80x4096) (Val := Elt Ideal) (e := .bf16) x5 (k0_off10 i) S1x80x512.size (k0_off10_inb i) (ix3 0 d ρ) (ix3 0 d r) fun a => ?_
  fin_cases a
  · exact (Nat.zero_add _).symm.trans (congrArg (· + 0) h0.symm)
  · exact (Nat.zero_add _).symm.trans (congrArg (· + d.val) h1.symm)
  · exact hr.trans (congrArg (· + ρ.val) h2.symm)

end Cert.KernelIdeal.Hand

end
-- ==== Proof.LoopIdeal.lean ====
/- What a grid point's loop leaves: for each column, the maximum of the masked scores of the keys taken so far and the sums of the
   values' lanes under the exponentials against it; the second stream runs one block behind the first. -/
module

public import proofs.«01_k».proof.Proof.LoadIdeal

@[expose] public section

set_option maxRecDepth 16384

noncomputable section

namespace Cert.KernelIdeal.Hand

open Idealize.ShloMosaic Idealize.ShloMosaic.TcCoe Idealize.SL.Sem
open Cert.KernelIdeal Cert.KernelIdeal.Gen
open Cert.Online (mass)

/-- A maximum over the rows of a block is the least upper bound over the block's keys. -/
theorem fold_block {N : ℕ} (a : ℕ) (f : Fin N → EReal) (g : ℕ → EReal) (h : ∀ ρ, f ρ = g (a + ρ.val)) :
    Finset.univ.fold max ⊥ f = (Finset.Ico a (a + N)).sup g := by
  rw [fold_max f (fun r => g (a + r)) h]
  refine le_antisymm (Finset.sup_le fun r hr => ?_) (Finset.sup_le fun k hk => ?_)
  · exact Finset.le_sup (f := g) (Finset.mem_Ico.2 ⟨by omega, by have := Finset.mem_range.1 hr; omega⟩)
  · obtain ⟨h1, h2⟩ := Finset.mem_Ico.1 hk
    have := Finset.le_sup (f := fun r => g (a + r)) (Finset.mem_range.2 (show k - a < N by omega))
    simpa only [Nat.add_sub_cancel' h1] using this

/-- A sum over the rows of a block is the sum over the block's keys. -/
theorem sum_block {N : ℕ} (a : ℕ) (f : Fin N → EReal) (g : ℕ → EReal) (h : ∀ ρ, f ρ = g (a + ρ.val)) :
    ∑ ρ, f ρ = ∑ k ∈ Finset.Ico a (a + N), g k := by
  rw [Finset.sum_Ico_eq_sum_range, Nat.add_sub_cancel_left, Finset.sum_range]
  exact Finset.sum_congr rfl fun ρ _ => h ρ

/-- The first key of the second stream's pending block before trip `k`. -/
def pend (n k : ℕ) : ℕ := (if k = 0 then n else k - 1) * 512
/-- The keys the first stream has taken before trip `k`. -/
def seen0 (n k : ℕ) : Finset ℕ := Finset.Ico (n * 512) (n * 512 + 256) ∪ Finset.range (k * 512)
/-- The keys the second stream has taken before trip `k`. -/
def seen1 (n k : ℕ) : Finset ℕ := if k = 0 then ∅ else Finset.Ico (n * 512) (n * 512 + 512) ∪ Finset.range ((k - 1) * 512)

theorem seen0_succ (n k : ℕ) : seen0 n k ∪ Finset.Ico (k * 512) (k * 512 + 512) = seen0 n (k + 1) := by
  ext x
  simp only [seen0, Finset.mem_union, Finset.mem_Ico, Finset.mem_range]
  omega

theorem seen0_disjoint {n k : ℕ} (h : k < n) : Disjoint (seen0 n k) (Finset.Ico (k * 512) (k * 512 + 512)) := by
  rw [Finset.disjoint_left]
  intro x
  simp only [seen0, Finset.mem_union, Finset.mem_Ico, Finset.mem_range]
  omega

theorem seen1_succ (n k : ℕ) : seen1 n k ∪ Finset.Ico (pend n k) (pend n k + 512) = seen1 n (k + 1) := by
  ext x
  unfold seen1 pend
  rcases k with _ | k
  · simp
  · simp only [Nat.add_eq_zero_iff, one_ne_zero, and_false, if_false, Nat.add_sub_cancel, Finset.mem_union, Finset.mem_Ico, Finset.mem_range]
    omega

theorem seen1_disjoint {n k : ℕ} (h : k ≤ n) : Disjoint (seen1 n k) (Finset.Ico (pend n k) (pend n k + 512)) := by
  rw [Finset.disjoint_left]
  intro x
  unfold seen1 pend
  rcases k with _ | k
  · simp
  · simp only [Nat.add_eq_zero_iff, one_ne_zero, and_false, if_false, Nat.add_sub_cancel, Finset.mem_union, Finset.mem_Ico, Finset.mem_range]
    omega

theorem seen0_all (n : ℕ) : seen0 n n = Finset.range (n * 512 + 256) := by
  ext x
  simp only [seen0, Finset.mem_union, Finset.mem_Ico, Finset.mem_range]
  omega

theorem seen1_all (n : ℕ) : seen1 n (n + 1) = Finset.range (n * 512 + 512) := by
  ext x
  simp only [seen1, Nat.add_eq_zero_iff, one_ne_zero, and_false, if_false, Nat.add_sub_cancel, Finset.mem_union, Finset.mem_Ico, Finset.mem_range]
  omega

variable (μ0 μ1 : Fin 1024 → ℕ → EReal) (w : Fin 80 → ℕ → EReal)

/-- What the carried buffers hold before trip `k` of tile `n`. -/
structure Holds (n k : ℕ) (x : Carry Ideal) : Prop where
  m0 : ∀ c, x.m0 (ix2 0 c) = (seen0 n k).sup (μ0 c)
  acc0 : ∀ d c, x.acc0 (ix2 d c) = mass (μ0 c) (w d) (seen0 n k) ((seen0 n k).sup (μ0 c))
  s1 : ∀ (ρ : Fin 512) c, x.s1 (ix2 ρ c) = μ1 c (pend n k + ρ.val)
  mx1 : ∀ c, x.mx1 (ix2 0 c) = (Finset.Ico (pend n k) (pend n k + 512)).sup (μ1 c)
  m1 : ∀ c, x.m1 (ix2 0 c) = (seen1 n k).sup (μ1 c)
  acc1 : ∀ d c, x.acc1 (ix2 d c) = mass (μ1 c) (w d) (seen1 n k) ((seen1 n k).sup (μ1 c))

variable {μ0 μ1 w}

/-- The second stream takes its pending block. -/
theorem take1 {n k : ℕ} {x : Carry Ideal} (hx : Holds μ0 μ1 w n k x) (hk : k ≤ n) (v : FVec Ideal S1x80x512 .bf16)
    (hv : ∀ d ρ, v (ix3 0 d ρ) = w d (pend n k + ρ.val)) (d : Fin 80) (c : Fin 1024) :
    Ideal.exp (x.m1 (ix2 0 c) - max (x.m1 (ix2 0 c)) (x.mx1 (ix2 0 c))) * x.acc1 (ix2 d c)
        + ∑ ρ : Fin 512, v (ix3 0 d ρ) * Ideal.exp (x.s1 (ix2 ρ c) - max (x.m1 (ix2 0 c)) (x.mx1 (ix2 0 c)))
      = mass (μ1 c) (w d) (seen1 n (k + 1)) ((seen1 n (k + 1)).sup (μ1 c)) := by
  rw [hx.m1, hx.mx1, hx.acc1, sum_block (pend n k) _ (fun κ => w d κ * Ideal.exp (μ1 c κ - max ((seen1 n k).sup (μ1 c))
    ((Finset.Ico (pend n k) (pend n k + 512)).sup (μ1 c)))) fun ρ => by rw [hv, hx.s1]]
  rw [← seen1_succ n k]
  exact Online.mass_step (μ1 c) (w d) (seen1_disjoint hk)

/-- One trip. -/
theorem Holds.step {n k : ℕ} {x : Carry Ideal} (hx : Holds μ0 μ1 w n k x) (hk : k < n) (kb : FVec Ideal S512x128 .bf16)
    (vp vb : FVec Ideal S1x80x512 .bf16) (q0 q1 : FVec Ideal S128x1024 .bf16)
    (h0 : ∀ (ρ : Fin 512) c, ∑ e : Fin 128, kb (ix2 ρ e) * q0 (ix2 e c) = μ0 c (k * 512 + ρ.val))
    (h1 : ∀ (ρ : Fin 512) c, ∑ e : Fin 128, kb (ix2 ρ e) * q1 (ix2 e c) = μ1 c (k * 512 + ρ.val))
    (hp : ∀ d ρ, vp (ix3 0 d ρ) = w d (pend n k + ρ.val)) (hb : ∀ d ρ, vb (ix3 0 d ρ) = w d (k * 512 + ρ.val)) :
    Holds μ0 μ1 w n (k + 1) (x.step kb vp vb q0 q1) := by
  have hpend : pend n (k + 1) = k * 512 := by simp [pend]
  have hmx : ∀ c, k0_pay4 (F := Ideal) kb q0 (ix2 0 c) = (Finset.Ico (k * 512) (k * 512 + 512)).sup (μ0 c) := fun c => by
    rw [pay4_at]; exact fold_block (k * 512) _ _ fun ρ => h0 ρ c
  refine ⟨fun c => ?_, fun d c => ?_, fun ρ c => ?_, fun c => ?_, fun c => ?_, fun d c => ?_⟩
  · simp only [Carry.step]
    rw [pay66_at, hx.m0, hmx, ← seen0_succ, Finset.sup_union]
  · simp only [Carry.step]
    rw [pay65_at, hx.m0, hmx, hx.acc0, sum_block (k * 512) _ (fun κ => w d κ * Ideal.exp (μ0 c κ - max ((seen0 n k).sup (μ0 c))
      ((Finset.Ico (k * 512) (k * 512 + 512)).sup (μ0 c)))) fun ρ => by rw [hb, pay3_at, h0]]
    rw [← seen0_succ n k]
    exact Online.mass_step (μ0 c) (w d) (seen0_disjoint hk)
  · simp only [Carry.step]
    rw [pay11_at, h1, hpend]
  · simp only [Carry.step]
    rw [pay12_at, hpend]; exact fold_block (k * 512) _ _ fun ρ => h1 ρ c
  · simp only [Carry.step]
    rw [pay9_at, hx.m1, hx.mx1, ← seen1_succ, Finset.sup_union]
  · simp only [Carry.step]
    rw [pay8_at]
    exact take1 hx hk.le vp hp d c

variable (i : grid0.Coords) (x4 : FVec Ideal S4096x128 .bf16) (x5 : FVec Ideal S1x80x4096 .bf16) (q0 q1 : FVec Ideal S128x1024 .bf16)

/-- Before the loop. -/
theorem holds_start
    (h0 : ∀ (κ : Fin 4096) c, μ0 c κ.val = if κ.val ≤ (i 2).val * 512 + c.val % 256 then ∑ e : Fin 128, x4 (ix2 κ e) * q0 (ix2 e c) else ⊥)
    (h1 : ∀ (κ : Fin 4096) c, μ1 c κ.val = if κ.val ≤ (i 2).val * 512 + 256 + c.val % 256 then ∑ e : Fin 128, x4 (ix2 κ e) * q1 (ix2 e c) else ⊥)
    (hw : ∀ d (κ : Fin 4096), x5 (ix3 0 d κ) = w d κ.val) :
    Holds μ0 μ1 w (i 2).val 0 ⟨sDiag1 (F := Ideal) i (keyDiag1 (F := Ideal) i x4) q1, mxDiag1 (F := Ideal) i (keyDiag1 (F := Ideal) i x4) q1, (k0_pay51 (F := Ideal)), (k0_pay52 (F := Ideal)),
      k0_pay64 (F := Ideal) (k0_pay40 (F := Ideal)) (mxDiag0 (F := Ideal) i (keyDiag0 (F := Ideal) i x4) q0),
      k0_pay63 (F := Ideal) (k0_pay40 (F := Ideal)) (mxDiag0 (F := Ideal) i (keyDiag0 (F := Ideal) i x4) q0) (sDiag0 (F := Ideal) i (keyDiag0 (F := Ideal) i x4) q0) (k0_pay41 (F := Ideal)) (valDiag0 (F := Ideal) i x5)⟩ := by
  have ht := tile_lt i
  have hpend : pend (i 2).val 0 = (i 2).val * 512 := by simp [pend]
  have hseen : seen0 (i 2).val 0 = Finset.Ico ((i 2).val * 512) ((i 2).val * 512 + 256) := by simp [seen0]
  have hs0 : ∀ (ρ : Fin 256) c, sDiag0 (F := Ideal) i (keyDiag0 i x4) q0 (ix2 ρ c) = μ0 c ((i 2).val * 512 + ρ.val) := fun ρ c => by
    have h := h0 ⟨(i 2).val * 512 + ρ.val, by omega⟩ c
    rw [h]
    unfold sDiag0
    rw [pay55_at _ _ _ _ ht]
    simp only [keyDiag0_at i x4 _ _ ⟨(i 2).val * 512 + ρ.val, by omega⟩ rfl]
  have hs1 : ∀ (ρ : Fin 512) c, sDiag1 (F := Ideal) i (keyDiag1 i x4) q1 (ix2 ρ c) = μ1 c ((i 2).val * 512 + ρ.val) := fun ρ c => by
    have h := h1 ⟨(i 2).val * 512 + ρ.val, by omega⟩ c
    rw [h]
    unfold sDiag1
    rw [mask_bot, pay60_at _ _ _ _ ht]
    simp only [keyDiag1_at i x4 _ _ ⟨(i 2).val * 512 + ρ.val, by omega⟩ rfl]
  have hm0 : ∀ c, mxDiag0 (F := Ideal) i (keyDiag0 i x4) q0 (ix2 0 c) = (Finset.Ico ((i 2).val * 512) ((i 2).val * 512 + 256)).sup (μ0 c) := fun c => by
    unfold mxDiag0
    rw [pay56_at]
    exact fold_block ((i 2).val * 512) _ _ fun ρ => hs0 ρ c
  have hm1 : ∀ c, mxDiag1 (F := Ideal) i (keyDiag1 i x4) q1 (ix2 0 c) = (Finset.Ico ((i 2).val * 512) ((i 2).val * 512 + 512)).sup (μ1 c) := fun c => by
    unfold mxDiag1
    rw [mask_bot, pay61_at]
    exact fold_block ((i 2).val * 512) _ _ fun ρ => by have := hs1 ρ c; unfold sDiag1 at this; rwa [mask_bot] at this
  refine ⟨fun c => ?_, fun d c => ?_, fun ρ c => ?_, fun c => ?_, fun c => ?_, fun d c => ?_⟩
  · dsimp only
    rw [pay64_at, pay40_at, hm0, hseen, max_eq_right bot_le]
  · dsimp only
    rw [pay63_at, pay40_at, pay41_at, hm0, hseen, max_eq_right bot_le, mul_zero, zero_add]
    refine sum_block ((i 2).val * 512) _ _ fun ρ => ?_
    rw [hs0, valDiag0_at i x5 d ρ ⟨(i 2).val * 512 + ρ.val, by omega⟩ rfl, hw]
  · dsimp only
    rw [hs1, hpend]
  · dsimp only
    rw [hm1, hpend]
  · dsimp only
    rw [pay51_at]; rfl
  · dsimp only
    rw [pay52_at]; rfl

/-- At the loop's exit. -/
theorem holds_end
    (h0 : ∀ (κ : Fin 4096) c, μ0 c κ.val = if κ.val ≤ (i 2).val * 512 + c.val % 256 then ∑ e : Fin 128, x4 (ix2 κ e) * q0 (ix2 e c) else ⊥)
    (h1 : ∀ (κ : Fin 4096) c, μ1 c κ.val = if κ.val ≤ (i 2).val * 512 + 256 + c.val % 256 then ∑ e : Fin 128, x4 (ix2 κ e) * q1 (ix2 e c) else ⊥)
    (hw : ∀ d (κ : Fin 4096), x5 (ix3 0 d κ) = w d κ.val) :
    Holds μ0 μ1 w (i 2).val (i 2).val (carryEnd (F := Ideal) i x4 x5 q0 q1) := by
  have ht := tile_lt i
  have key : ∀ k, k ≤ (k0_t1_loop i).trips → Holds μ0 μ1 w (i 2).val k (carryAt (F := Ideal) i x4 x5 q0 q1 (sDiag1 (F := Ideal) i (keyDiag1 (F := Ideal) i x4) q1)
      (mxDiag1 (F := Ideal) i (keyDiag1 (F := Ideal) i x4) q1) (k0_pay51 (F := Ideal)) (k0_pay52 (F := Ideal)) (k0_pay64 (F := Ideal) (k0_pay40 (F := Ideal)) (mxDiag0 (F := Ideal) i (keyDiag0 (F := Ideal) i x4) q0))
      (k0_pay63 (F := Ideal) (k0_pay40 (F := Ideal)) (mxDiag0 (F := Ideal) i (keyDiag0 (F := Ideal) i x4) q0) (sDiag0 (F := Ideal) i (keyDiag0 (F := Ideal) i x4) q0) (k0_pay41 (F := Ideal)) (valDiag0 (F := Ideal) i x5)) k) := by
    intro k
    induction k with
    | zero => exact fun _ => holds_start i x4 x5 q0 q1 h0 h1 hw
    | succ k ih =>
      intro hk
      have hkn : k < (i 2).val := lt_of_lt_of_eq hk (trips_eq i)
      have hs := (ih (Nat.le_of_succ_le hk)).step hkn (keyBlk (F := Ideal) i ⟨k, hk⟩ x4) (valPrev (F := Ideal) i ⟨k, hk⟩ x5) (valBlk (F := Ideal) i ⟨k, hk⟩ x5) q0 q1
        (fun ρ c => by
          have h := h0 ⟨k * 512 + ρ.val, by omega⟩ c
          rw [h, if_pos (by dsimp only; omega)]
          simp only [keyBlk_at i ⟨k, hk⟩ x4 _ _ ⟨k * 512 + ρ.val, by omega⟩ rfl])
        (fun ρ c => by
          have h := h1 ⟨k * 512 + ρ.val, by omega⟩ c
          rw [h, if_pos (by dsimp only; omega)]
          simp only [keyBlk_at i ⟨k, hk⟩ x4 _ _ ⟨k * 512 + ρ.val, by omega⟩ rfl])
        (fun d ρ => by
          have hp : pend (i 2).val k + ρ.val < 4096 := by unfold pend; split <;> omega
          rw [valPrev_at i ⟨k, hk⟩ x5 d ρ ⟨pend (i 2).val k + ρ.val, hp⟩ rfl, hw])
        (fun d ρ => by
          rw [valBlk_at i ⟨k, hk⟩ x5 d ρ ⟨k * 512 + ρ.val, by omega⟩ rfl, hw])
      exact (carryAt_succ (F := Ideal) i x4 x5 q0 q1 _ _ _ _ _ _ ⟨k, hk⟩) ▸ hs
  have h := key (k0_t1_loop i).trips le_rfl
  unfold carryEnd
  rw [trips_eq i] at h ⊢
  exact h

/-- The second stream's sums at the end. -/
theorem accEnd1_at {x : Carry Ideal} (hx : Holds μ0 μ1 w (i 2).val (i 2).val x)
    (hw : ∀ d (κ : Fin 4096), x5 (ix3 0 d κ) = w d κ.val) (d : Fin 80) (c : Fin 1024) :
    accEnd1 (F := Ideal) i x5 x (ix2 d c)
      = mass (μ1 c) (w d) (Finset.range ((i 2).val * 512 + 512)) ((Finset.range ((i 2).val * 512 + 512)).sup (μ1 c)) := by
  have ht := tile_lt i
  unfold accEnd1
  rw [pay70_at, take1 hx le_rfl _ (fun d ρ => ?_) d c, seen1_all]
  have hp : pend (i 2).val (i 2).val + ρ.val < 4096 := by unfold pend; split <;> omega
  rw [valLast_at i x5 d ρ ⟨pend (i 2).val (i 2).val + ρ.val, hp⟩ rfl, hw]

end Cert.KernelIdeal.Hand

end
-- ==== Proof.Attend.lean ====
/- The selected attention of one query and one lane, in numbers: the masked scores, the softmax's weights against them, and the two
   ways a score is written (a plain product scaled, and the product of augmented rows). -/
module

public import proofs.«01_k».proof.Proof.PointIdeal
public import Idealize.ShloMosaic.Lib.Pipeline.ValueKit

@[expose] public section

noncomputable section

namespace Cert.Online

open Idealize.ShloMosaic

/-- The scores' scale, one eighth. -/
abbrev scale : EReal := Ideal.ofBits .f32 0x3E000000#32
/-- The floor of the softmax's denominator. -/
abbrev floor : EReal := Ideal.ofBits .f32 0x0DA24260#32

theorem scale_eq : scale = ((2 ^ 23 * (2 : ℝ) ^ (-26 : ℤ) : ℝ) : EReal) := by
  show Ideal.ieee 8 23 0x3E000000#32 = _
  unfold Ideal.ieee
  rw [if_neg (by decide), if_neg (by decide)]
  have h1 : (BitVec.extractLsb' (8 + 23) 1 0x3E000000#32 == 1#1) = false := by decide
  have h2 : (BitVec.extractLsb' 0 23 0x3E000000#32).toNat = 0 := by decide
  have h3 : (BitVec.extractLsb' 23 8 0x3E000000#32).toNat = 124 := by decide
  simp only [h1, h2, h3]
  norm_num

theorem scale_nonneg : 0 ≤ scale := by rw [scale_eq]; exact_mod_cast by positivity
theorem scale_ne_top : scale ≠ ⊤ := by rw [scale_eq]; exact EReal.coe_ne_top _

theorem floor_eq : floor = ((((2 ^ 23 + 2245216 : ℕ) : ℝ) * (2 : ℝ) ^ (-123 : ℤ) : ℝ) : EReal) := by
  show Ideal.ieee 8 23 0x0DA24260#32 = _
  unfold Ideal.ieee
  rw [if_neg (by decide), if_neg (by decide)]
  have h1 : (BitVec.extractLsb' (8 + 23) 1 0x0DA24260#32 == 1#1) = false := by decide
  have h2 : (BitVec.extractLsb' 0 23 0x0DA24260#32).toNat = 2245216 := by decide
  have h3 : (BitVec.extractLsb' 23 8 0x0DA24260#32).toNat = 27 := by decide
  simp only [h1, h2, h3]
  norm_num

theorem floor_pos : 0 < floor := by rw [floor_eq]; exact_mod_cast by positivity
theorem floor_le_one : floor ≤ 1 := by
  rw [floor_eq]
  have : (((2 ^ 23 + 2245216 : ℕ) : ℝ) * (2 : ℝ) ^ (-123 : ℤ) : ℝ) ≤ 1 := by norm_num
  exact_mod_cast this

theorem pos_inf : Ideal.ofBits .f32 0x7F800000#32 = ⊤ := by
  show Ideal.ieee 8 23 0x7F800000#32 = ⊤
  unfold Ideal.ieee
  rw [if_pos (by decide), if_pos (by decide), if_neg (by decide)]

/-- A key's score against a query. -/
def score (k q : Fin 64 → EReal) : EReal := (∑ d, k d * q d) * scale

/-- The score of key `κ`, masked: selected blocks only, and no key after the query. -/
def masked (k : Fin 4096 → Fin 64 → EReal) (q : Fin 64 → EReal) (sel : Fin 64 → BitVec 32) (pos : ℕ) (κ : ℕ) : EReal :=
  if h : κ < 4096 then if sel ⟨κ / 64, by omega⟩ ≠ 0 ∧ κ ≤ pos then score (k ⟨κ, h⟩) q else ⊥ else ⊥

/-- A lane of the values, along the keys. -/
def lane (v : Fin 4096 → EReal) (κ : ℕ) : EReal := if h : κ < 4096 then v ⟨κ, h⟩ else 0

/-- The gated selected attention of one query, at one lane of the values. -/
def attend (μ v : ℕ → EReal) (g : EReal) : EReal :=
  g * ∑ k ∈ Finset.range 4096, v k * Ideal.div (Ideal.exp (μ k - if max ((Finset.range 4096).sup μ) (-((Finset.range 4096).sup μ)) < ⊤ then (Finset.range 4096).sup μ else 0))
    (max (∑ k ∈ Finset.range 4096, Ideal.exp (μ k - if max ((Finset.range 4096).sup μ) (-((Finset.range 4096).sup μ)) < ⊤ then (Finset.range 4096).sup μ else 0)) floor)

/-- The product of augmented rows: the scaled product where the key's block is selected, the mask where it is not. -/
theorem score_split (k q : Fin 64 → EReal) (sel : Fin 64 → BitVec 32) (b : Fin 64) (f : Fin 128 → EReal)
    (hlo : ∀ d : Fin 64, f ⟨d.val, by omega⟩ = k d * (q d * scale))
    (hhi : ∀ s : Fin 64, f ⟨64 + s.val, by omega⟩ = (if s = b then 1 else 0) * (if sel s ≠ 0 then 0 else ⊥)) :
    ∑ e, f e = if sel b ≠ 0 then score k q else ⊥ := by
  have h1 : ∑ e, f e = ∑ d : Fin 64, k d * (q d * scale) + ∑ s : Fin 64, (if s = b then (1 : EReal) else 0) * (if sel s ≠ 0 then 0 else ⊥) := by
    rw [Fin.sum_univ_add (a := 64) (b := 64) f]
    exact congrArg₂ (· + ·) (Finset.sum_congr rfl fun d _ => hlo d) (Finset.sum_congr rfl fun s _ => hhi s)
  have h2 : ∑ d : Fin 64, k d * (q d * scale) = score k q := by
    rw [score, mul_comm, mul_sum scale_nonneg scale_ne_top]
    exact Finset.sum_congr rfl fun d _ => by rw [← mul_assoc, mul_comm]
  have h3 : ∑ s : Fin 64, (if s = b then (1 : EReal) else 0) * (if sel s ≠ 0 then 0 else ⊥) = if sel b ≠ 0 then 0 else ⊥ := by
    rw [Finset.sum_eq_single b (fun s _ hs => by rw [if_neg hs, zero_mul]) (fun h => absurd (Finset.mem_univ b) h), if_pos rfl, one_mul]
  rw [h1, h2, h3]
  split
  · rw [add_zero]
  · rw [EReal.add_bot]

end Cert.Online

end
-- ==== Proof.PointValue.lean ====
/- What each grid point stores, in terms of the arguments: the gated selected attention of its queries. -/
module

public import proofs.«01_k».proof.Proof.AugIdeal
public import proofs.«01_k».proof.Proof.OutIdeal
public import proofs.«01_k».proof.Proof.LoopIdeal
public import proofs.«01_k».proof.Proof.Attend

@[expose] public section

set_option maxRecDepth 16384

noncomputable section

namespace Cert.KernelIdeal.Hand

open Idealize.ShloMosaic Idealize.ShloMosaic.TcCoe Idealize.SL.Sem
open Cert.KernelIdeal Cert.KernelIdeal.Gen
open Cert.Online (mass)

variable (m : (ℓ : Loc nD τ sig) → Buf (Elt Ideal) ℓ) (c : Dev nD) (t : Fin cfg0.N)

/-- The masked scores of the point's query `l` in head `r` of the group. -/
def sc (r : Fin 4) (l : Fin 512) : ℕ → EReal :=
  Online.masked (fun κ d => argK m c (ix4 (batch t) κ (group t) d))
    (fun d => argQ m c (ix3 (batch t) ⟨(tile t).val * 512 + l.val, by omega⟩ ⟨((group t).val * 4 + r.val) * 64 + d.val, by omega⟩))
    (fun s => argS m c (ix4 (batch t) (group t) ⟨(tile t).val * 512 + l.val, by omega⟩ s)) ((tile t).val * 512 + l.val)

/-- Lane `d` of the group's values, the row of ones among them. -/
def lanes (d : Fin 80) (κ : ℕ) : EReal :=
  if h : κ < 4096 then
    if hd : d.val < 64 then argV m c (ix4 (batch t) ⟨κ, h⟩ (group t) ⟨d.val, hd⟩) else if d.val - 64 < 1 then 1 else 0
  else 0

/-- The point's queries, keys, values and selection. -/
def qB : FVec Ideal S4x64x512 .bf16 := iblk m c 0 t
def kB : FVec Ideal S4096x128 .bf16 := iblk m c 1 t
def vB : FVec Ideal S1x80x4096 .bf16 := iblk m c 2 t
def sB : FVec Ideal S1x1x64x512 .bf16 := iblk m c 3 t

theorem sc_eq (κ : Fin 4096) (r : Fin 4) (l : Fin 512) (qa : Fin 128 → EReal)
    (hlo : ∀ d : Fin 64, qa ⟨d.val, by omega⟩ = (qB m c t) (ix3 r d l))
    (hhi : ∀ s : Fin 64, qa ⟨64 + s.val, by omega⟩ = bias ((sB m c t) (ix4 0 0 s l)))
    {P : ℕ} (hP : P = (tile t).val * 512 + l.val) :
    sc m c t r l κ.val = if κ.val ≤ P then ∑ e : Fin 128, (kB m c t (ix2 κ e) : EReal) * qa e else ⊥ := by
  have hsum := Online.score_split (fun d => argK m c (ix4 (batch t) κ (group t) d))
    (fun d => argQ m c (ix3 (batch t) ⟨(tile t).val * 512 + l.val, by omega⟩ ⟨((group t).val * 4 + r.val) * 64 + d.val, by omega⟩))
    (fun s => argS m c (ix4 (batch t) (group t) ⟨(tile t).val * 512 + l.val, by omega⟩ s)) ⟨κ.val / 64, by omega⟩
    (fun e => (kB m c t (ix2 κ e) : EReal) * qa e)
    (fun d => by
      refine congrArg₂ (· * ·) ((blk_k m c t κ ⟨d.val, by omega⟩).trans (dif_pos d.isLt)) ?_
      exact (hlo d).trans (blk_q m c t r d l))
    (fun s => by
      refine congrArg₂ (· * ·) ((blk_k m c t κ ⟨64 + s.val, by omega⟩).trans ((dif_neg (by dsimp only; omega)).trans ?_)) ?_
      · exact if_congr (by rw [Fin.ext_iff]; dsimp only; omega) rfl rfl
      · rw [hhi, sB, blk_s, bias]
        split <;> simp_all)
  rw [hsum, hP]
  unfold sc Online.masked
  rw [dif_pos κ.isLt]
  by_cases h1 : κ.val ≤ (tile t).val * 512 + l.val
  · rw [if_pos h1]
    exact if_congr (by simp [h1]) rfl rfl
  · rw [if_neg h1, if_neg fun h => h1 h.2]

theorem sc_late (r : Fin 4) (l : Fin 512) (κ : ℕ) (h : (tile t).val * 512 + l.val < κ) : sc m c t r l κ = ⊥ := by
  unfold sc Online.masked
  split
  · rw [if_neg fun h' => by omega]
  · rfl

theorem coord (t : Fin cfg0.N) : (grid0.coords t 2).val = (tile t).val := (idx t).2.2.2.2.2.2.2

/-- A column's query among the point's, in the first and in the second stream. -/
abbrev left (c : Fin 1024) : Fin 512 := ⟨c.val % 256, by omega⟩
abbrev right (c : Fin 1024) : Fin 512 := ⟨c.val % 256 + 256, by omega⟩
abbrev headOf (c : Fin 1024) : Fin 4 := ⟨c.val / 256, by omega⟩

theorem scores0 (κ : Fin 4096) (col : Fin 1024) : sc m c t (headOf col) (left col) κ.val
    = if κ.val ≤ (grid0.coords t 2).val * 512 + col.val % 256 then
        ∑ e : Fin 128, (kB m c t (ix2 κ e) : EReal) * aug0 (F := Ideal) (qB m c t) (sB m c t) (ix2 e col) else ⊥ :=
  sc_eq m c t κ (headOf col) (left col) (fun e => aug0 (F := Ideal) (qB m c t) (sB m c t) (ix2 e col))
    (fun d => (aug0_read _ _ _).trans (dif_pos d.isLt))
    (fun s => (aug0_read _ _ _).trans ((dif_neg (by show ¬ 64 + s.val < 64; omega)).trans
      (congrArg (fun z => bias ((sB m c t) (ix4 0 0 z (left col)))) (Fin.ext (Nat.add_sub_cancel_left 64 s.val)))))
    (by rw [coord])

theorem scores1 (κ : Fin 4096) (col : Fin 1024) : sc m c t (headOf col) (right col) κ.val
    = if κ.val ≤ (grid0.coords t 2).val * 512 + 256 + col.val % 256 then
        ∑ e : Fin 128, (kB m c t (ix2 κ e) : EReal) * aug1 (F := Ideal) (qB m c t) (sB m c t) (ix2 e col) else ⊥ :=
  sc_eq m c t κ (headOf col) (right col) (fun e => aug1 (F := Ideal) (qB m c t) (sB m c t) (ix2 e col))
    (fun d => (aug1_read _ _ _).trans (dif_pos d.isLt))
    (fun s => (aug1_read _ _ _).trans ((dif_neg (by show ¬ 64 + s.val < 64; omega)).trans
      (congrArg (fun z => bias ((sB m c t) (ix4 0 0 z (right col)))) (Fin.ext (Nat.add_sub_cancel_left 64 s.val)))))
    (by rw [coord]; dsimp only; omega)

theorem lanes_eq (d : Fin 80) (κ : Fin 4096) : (vB m c t) (ix3 0 d κ) = lanes m c t d κ.val := by
  rw [vB, blk_v, lanes, dif_pos κ.isLt]

/-- Keys after the query change neither the maximum nor the sums. -/
theorem widen (μ w w' : ℕ → EReal) {N : ℕ} (hN : N ≤ 4096) (hb : ∀ k, N ≤ k → μ k = ⊥) (hw : ∀ k < 4096, w k = w' k) :
    mass μ w (Finset.range N) ((Finset.range N).sup μ) = mass μ w' (Finset.range 4096) ((Finset.range 4096).sup μ) := by
  have hs : Finset.range N ⊆ Finset.range 4096 := Finset.range_subset_range.2 hN
  have hb' : ∀ k ∈ Finset.range 4096, k ∉ Finset.range N → μ k = ⊥ := fun k _ h => hb k (by simpa using h)
  rw [Online.sup_of_sub μ hs hb', Online.mass_of_sub μ w hs hb']
  exact Finset.sum_congr rfl fun k hk => by rw [hw k (Finset.mem_range.1 hk)]

theorem lanes_value (d : Fin 64) (k : ℕ) (hk : k < 4096) :
    lanes m c t ⟨d.val, by omega⟩ k = Online.lane (fun κ => argV m c (ix4 (batch t) κ (group t) d)) k := by
  rw [lanes, Online.lane, dif_pos hk, dif_pos hk, dif_pos d.isLt]

theorem lanes_ones (k : ℕ) (hk : k < 4096) : lanes m c t 64 k = 1 := by
  rw [lanes, dif_pos hk]; rfl

/-- The block stored, at an index. -/
theorem out_at (x7 : FVec Ideal S1x1x8x512 .f32) (x8 : FVec Ideal S1x1x8x1 .f32) (a0 a1 : FVec Ideal S80x1024 .f32) (r : Fin 4) (d : Fin 64) (l : Fin 512) :
    View.canon (outL (F := Ideal) x7 x8 a0 a1) (ix3 r d l)
      = ratio ((if l.val < 256 then a0 else a1) (ix2 ⟨d.val, by omega⟩ ⟨r.val * 256 + l.val % 256, by omega⟩))
          ((if l.val < 256 then a0 else a1) (ix2 64 ⟨r.val * 256 + l.val % 256, by omega⟩))
          (x7 (ix4 0 0 ⟨r.val, by omega⟩ l)) (x8 (ix4 0 0 ⟨r.val, by omega⟩ 0)) := out_read x7 x8 a0 a1 (ix3 r d l)

theorem point_at (r : Fin 4) (d : Fin 64) (l : Fin 512) :
    out0_6 (F := Ideal) (grid0.coords t) (qB m c t) (kB m c t) (vB m c t) (sB m c t) (iblk m c 4 t) (iblk m c 5 t) (ix3 r d l)
      = Online.attend (sc m c t r l) (Online.lane fun κ => argV m c (ix4 (batch t) κ (group t) d))
          (Ideal.logistic (argG m c (ix3 (batch t) ⟨(tile t).val * 512 + l.val, by omega⟩ ⟨(group t).val * 12 + r.val * 3 + 1, by omega⟩)
            + argB m c (ix1 ⟨(group t).val * 12 + r.val * 3 + 1, by omega⟩))) := by
  have hend := holds_end (μ0 := fun col => sc m c t (headOf col) (left col)) (μ1 := fun col => sc m c t (headOf col) (right col))
    (w := lanes m c t) (grid0.coords t) (kB m c t) (vB m c t) (aug0 (F := Ideal) (qB m c t) (sB m c t))
    (aug1 (F := Ideal) (qB m c t) (sB m c t)) (scores0 m c t) (scores1 m c t) (lanes_eq m c t)
  unfold out0_6
  refine (out_at _ _ _ _ r d l).trans ?_
  rw [blk_g m c t ⟨r.val, by omega⟩ l r.isLt, blk_b m c t ⟨r.val, by omega⟩ r.isLt]
  have hq := Online.quotient (sc m c t r l) (Online.lane fun κ => argV m c (ix4 (batch t) κ (group t) d)) (Finset.range 4096)
    (Ideal.logistic (argG m c (ix3 (batch t) ⟨(tile t).val * 512 + l.val, by omega⟩ ⟨(group t).val * 12 + r.val * 3 + 1, by omega⟩)
            + argB m c (ix1 ⟨(group t).val * 12 + r.val * 3 + 1, by omega⟩))) Online.floor Online.floor_pos Online.floor_le_one
  unfold ratio Online.attend
  rw [← hq]
  have hh : headOf ⟨r.val * 256 + l.val % 256, by omega⟩ = r := Fin.ext (by dsimp only; omega)
  by_cases hl : l.val < 256
  · have hc : left ⟨r.val * 256 + l.val % 256, by omega⟩ = l := Fin.ext (by dsimp only; omega)
    rw [if_pos hl, hend.acc0, hend.acc0, seen0_all]
    simp only [hh, hc]
    rw [widen _ _ _ (by have := (tile t).isLt; rw [coord]; omega) (fun k hk => sc_late m c t r l k (by rw [coord] at hk; omega)) (lanes_value m c t d),
      widen _ _ _ (by have := (tile t).isLt; rw [coord]; omega) (fun k hk => sc_late m c t r l k (by rw [coord] at hk; omega)) (lanes_ones m c t)]
  · have hc : right ⟨r.val * 256 + l.val % 256, by omega⟩ = l := Fin.ext (by dsimp only; omega)
    rw [if_neg hl, accEnd1_at (grid0.coords t) (vB m c t) hend (lanes_eq m c t), accEnd1_at (grid0.coords t) (vB m c t) hend (lanes_eq m c t)]
    simp only [hh, hc]
    rw [widen _ _ _ (by have := (tile t).isLt; rw [coord]; omega) (fun k hk => sc_late m c t r l k (by rw [coord] at hk; omega)) (lanes_value m c t d),
      widen _ _ _ (by have := (tile t).isLt; rw [coord]; omega) (fun k hk => sc_late m c t r l k (by rw [coord] at hk; omega)) (lanes_ones m c t)]

end Cert.KernelIdeal.Hand

end
-- ==== Proof.ReferenceAt.lean ====
/- The reference's result, read at an index: stage by stage, each over arbitrary arrays. -/
module

public import proofs.«01_k».proof.Proof.Gen.ReferenceIdeal.Run
public import proofs.«01_k».proof.Proof.Attend
public import Idealize.ShloMosaic.Lib.Pointwise
public import Idealize.ShloMosaic.Lib.Pipeline.ValueKit

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.ReferenceIdeal.Value

def refScores (Q : FVec Ideal S8x4096x1024 .f32) (K : FVec Ideal S8x4096x4x64 .f32) (S : IVec S8x4x4096x64 32) : FVec Ideal S8x4x4x4096x4096 .f32 :=
  select (broadcastInDim S8x4x4x4096x4096 ![0, 1, 2, 3, 4] bcast_S8x4x1x4096x4096_S8x4x4x4096x4096_0_1_2_3_4 (broadcastInDim S8x4x1x4096x4096 ![0, 1, 3, 4] bcast_S8x4x4096x4096_S8x4x1x4096x4096_0_1_3_4 (andi (shapeCast _ (broadcastInDim S8x4x4096x64x64 ![0, 1, 2, 3] bcast_S8x4x4096x64_S8x4x4096x64x64_0_1_2_3 (cmpi .ne S (broadcastInDim S8x4x4096x64 ![] bcast_S_S8x4x4096x64 (constantI S_ 32 0#32)))) shapeCasts_S8x4x4096x64x64_S8x4x4096x4096) (broadcastInDim S8x4x4096x4096 ![0, 1, 2, 3] bcast_S1x1x4096x4096_S8x4x4096x4096_0_1_2_3 (broadcastInDim S1x1x4096x4096 ![2, 3] bcast_S4096x4096_S1x1x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))))))) (mulf (transpose S8x4x4x4096x4096 [0, 1, 4, 3, 2] (Host.dotGeneral dot_S8x4096x4x64_S8x4096x4x4x64_S8x4x4096x4096x4_3_4_1_13_02_02 none K (shapeCast _ Q shapeCasts_S8x4096x1024_S8x4096x4x4x64)) transposes_S8x4x4096x4096x4_S8x4x4x4096x4096_0_1_4_3_2) (broadcastInDim S8x4x4x4096x4096 ![] bcast_S_S8x4x4x4096x4096 (constant S_ .f32 0x3E000000#32))) (broadcastInDim S8x4x4x4096x4096 ![] bcast_S_S8x4x4x4096x4096 (id (constant S_ .f32 0xFF800000#32)))

def refMax (s : FVec Ideal S8x4x4x4096x4096 .f32) : FVec Ideal S8x4x4x4096x1 .f32 :=
  broadcastInDim S8x4x4x4096x1 ![0, 1, 2, 3] bcast_S8x4x4x4096_S8x4x4x4096x1_0_1_2_3 (Host.reduce FloatOps.maximumf s (constant S_ .f32 0xFF800000#32) reducesTo_S8x4x4x4096x4096_S8x4x4x4096_d4 h_S_)

def refSafe (x : FVec Ideal S8x4x4x4096x1 .f32) : FVec Ideal S8x4x4x4096x1 .f32 :=
  select (cmpf .olt (Host.absf x) (broadcastInDim S8x4x4x4096x1 ![] bcast_S_S8x4x4x4096x1 (constant S_ .f32 0x7F800000#32))) x (broadcastInDim S8x4x4x4096x1 ![] bcast_S_S8x4x4x4096x1 (id (constant S_ .f32 0x00000000#32)))

def refExp (s : FVec Ideal S8x4x4x4096x4096 .f32) (y : FVec Ideal S8x4x4x4096x1 .f32) : FVec Ideal S8x4x4x4096x4096 .f32 :=
  Host.exp (subf s (broadcastInDim S8x4x4x4096x4096 ![0, 1, 2, 3, 4] bcast_S8x4x4x4096x1_S8x4x4x4096x4096_0_1_2_3_4 y))

def refWeights (e : FVec Ideal S8x4x4x4096x4096 .f32) : FVec Ideal S8x4x4x4096x4096 .f32 :=
  Host.divf e (broadcastInDim S8x4x4x4096x4096 ![0, 1, 2, 3, 4] bcast_S8x4x4x4096x1_S8x4x4x4096x4096_0_1_2_3_4 (maximumf (broadcastInDim S8x4x4x4096x1 ![0, 1, 2, 3] bcast_S8x4x4x4096_S8x4x4x4096x1_0_1_2_3 (Host.reduceAdd e (constant S_ .f32 0x00000000#32) reducesTo_S8x4x4x4096x4096_S8x4x4x4096_d4 h_S_)) (broadcastInDim S8x4x4x4096x1 ![] bcast_S_S8x4x4x4096x1 (constant S_ .f32 0x0DA24260#32))))

def refGate (G : FVec Ideal S8x4096x48 .f32) (B : FVec Ideal S48 .f32) : FVec Ideal S8x4096x48 .f32 :=
  Host.divf (broadcastInDim S8x4096x48 ![] bcast_S_S8x4096x48 (constant S_ .f32 0x3F800000#32)) (addf (broadcastInDim S8x4096x48 ![] bcast_S_S8x4096x48 (constant S_ .f32 0x3F800000#32)) (Host.exp (Host.negf (addf G (broadcastInDim S8x4096x48 ![0, 1, 2] bcast_S1x1x48_S8x4096x48_0_1_2 (broadcastInDim S1x1x48 ![2] bcast_S48_S1x1x48_2 B))))))

def refOut (g : FVec Ideal S8x4096x48 .f32) (V : FVec Ideal S8x4096x4x64 .f32) (w : FVec Ideal S8x4x4x4096x4096 .f32) : FVec Ideal S16x64x32768 .bf16 :=
  truncf .bf16 (shapeCast _ (transpose S4x4x64x8x4096 [2, 3, 4, 0, 1] (mulf (broadcastInDim S8x4096x4x4x64 ![0, 1, 2, 3, 4] bcast_S8x4096x4x4x1_S8x4096x4x4x64_0_1_2_3_4 (extractStridedSlice S8x4096x4x4x1 ![0, 0, 0, 0, 1] (shapeCast _ g shapeCasts_S8x4096x48_S8x4096x4x4x3) slices_S8x4096x4x4x3_S8x4096x4x4x1_0_0_0_0_1)) (transpose S8x4096x4x4x64 [0, 4, 1, 3, 2] (Host.dotGeneral dot_S8x4096x4x64_S8x4x4x4096x4096_S8x4x64x4x4096_1_4_3_23_02_01 none V w) transposes_S8x4x64x4x4096_S8x4096x4x4x64_0_4_1_3_2)) transposes_S8x4096x4x4x64_S4x4x64x8x4096_2_3_4_0_1) shapeCasts_S4x4x64x8x4096_S16x64x32768) bitsLt_bf16_f32

theorem select_both (w : BitVec 32) (x : Fin 4096) (n : ℕ) (hn : n < 4096) (a b : EReal) :
    (Scalar.select (IntOp.andi (IntOp.cmpi .ne w 0#32) (IntOp.cmpi .sle (BitVec.ofNat 32 x.val) (BitVec.ofNat 32 n))) a b : EReal)
      = if w ≠ 0 ∧ x.val ≤ n then a else b := by
  have h := KernelIdeal.Hand.select_sle (a := x.val) (b := n) (by omega) (by omega) a b
  by_cases hw : w = 0
  · simp [Scalar.select, IntOp.cmpi, IntOp.andi, hw]
  · have h' : (w != 0#32) = true := by rw [bne_iff_ne]; exact hw
    have h1 : IntOp.andi (IntOp.cmpi .ne w 0#32) (IntOp.cmpi .sle (BitVec.ofNat 32 x.val) (BitVec.ofNat 32 n))
        = IntOp.cmpi .sle (BitVec.ofNat 32 x.val) (BitVec.ofNat 32 n) := by
      simp only [IntOp.cmpi, IntOp.andi, h']
      generalize BitVec.sle _ _ = t
      cases t <;> rfl
    rw [h1, h]
    by_cases hx : x.val ≤ n
    · rw [if_pos hx, if_pos ⟨hw, hx⟩]
    · rw [if_neg hx, if_neg fun e => hx e.2]

variable (Q : FVec Ideal S8x4096x1024 .f32) (K V : FVec Ideal S8x4096x4x64 .f32) (S : IVec S8x4x4096x64 32)
  (s e w : FVec Ideal S8x4x4x4096x4096 .f32) (x y : FVec Ideal S8x4x4x4096x1 .f32) (G g : FVec Ideal S8x4096x48 .f32) (B : FVec Ideal S48 .f32)
  (b : Fin 8) (gr r : Fin 4) (n k : Fin 4096)

theorem max_at : refMax s (ix5 b gr r n 0) = Finset.univ.fold max ⊥ fun k : Fin 4096 => s (ix5 b gr r n k) := by
  pointwise [refMax, KernelIdeal.Hand.neg_inf]

theorem safe_at : refSafe x (ix5 b gr r n 0) = if max (x (ix5 b gr r n 0)) (-(x (ix5 b gr r n 0))) < ⊤ then x (ix5 b gr r n 0) else (0 : EReal) := by
  pointwise [refSafe, Online.pos_inf]
  show (if max (x (ix5 b gr r n 0)) (-(x (ix5 b gr r n 0))) < ⊤ then x (ix5 b gr r n 0) else Ideal.ofBits .f32 0x00000000#32) = _
  rw [Ideal.ofBits_zero_f32]

theorem exp_at : refExp s y (ix5 b gr r n k) = Ideal.exp (s (ix5 b gr r n k) - y (ix5 b gr r n 0)) := by
  pointwise [refExp]

theorem weights_at : refWeights e (ix5 b gr r n k) = Ideal.div (e (ix5 b gr r n k)) (max (∑ j : Fin 4096, e (ix5 b gr r n j)) Online.floor) := by
  pointwise [refWeights]

theorem gate_at (j : Fin 48) : refGate G B (ix3 b n j) = Ideal.logistic (G (ix3 b n j) + B (ix1 j)) := by
  pointwise [refGate]
  rfl

theorem out_at (h : Fin 16) (d : Fin 64) (t : Fin 32768) : refOut g V w (ix3 h d t)
    = g (ix3 ⟨t.val / 4096, by omega⟩ ⟨t.val % 4096, by omega⟩ ⟨h.val / 4 * 12 + h.val % 4 * 3 + 1, by omega⟩)
      * ∑ k : Fin 4096, V (ix4 ⟨t.val / 4096, by omega⟩ k ⟨h.val / 4, by omega⟩ d)
          * w (ix5 ⟨t.val / 4096, by omega⟩ ⟨h.val / 4, by omega⟩ ⟨h.val % 4, by omega⟩ ⟨t.val % 4096, by omega⟩ k) := by
  pointwise [refOut]

theorem scores_at : refScores Q K S (ix5 b gr r n k)
    = if S (ix4 b gr n ⟨k.val / 64, by omega⟩) ≠ 0 ∧ k.val ≤ n.val
      then (∑ d : Fin 64, K (ix4 b k gr d) * Q (ix3 b n ⟨gr.val * 256 + r.val * 64 + d.val, by omega⟩)) * Online.scale else ⊥ := by
  pointwise [refScores]
  rw [select_both _ k n.val n.isLt]
  rw [show (id (constant S_ FTy.f32 4286578688#32) ix0 : Ideal .f32) = ⊥ from KernelIdeal.Hand.neg_inf]

/-- The masked scores of head `h` at token `t`. -/
abbrev scores (h : Fin 16) (t : Fin 32768) : ℕ → EReal :=
  Online.masked (fun κ d => K (ix4 ⟨t.val / 4096, by omega⟩ κ ⟨h.val / 4, by omega⟩ d))
    (fun d => Q (ix3 ⟨t.val / 4096, by omega⟩ ⟨t.val % 4096, by omega⟩ ⟨h.val / 4 * 256 + h.val % 4 * 64 + d.val, by omega⟩))
    (fun s => S (ix4 ⟨t.val / 4096, by omega⟩ ⟨h.val / 4, by omega⟩ ⟨t.val % 4096, by omega⟩ s)) (t.val % 4096)

/-- The reference's result over arbitrary arrays. -/
def refAll : FVec Ideal S16x64x32768 .bf16 :=
  refOut (refGate G B) V (refWeights (refExp (refScores Q K S) (refSafe (refMax (refScores Q K S)))))

theorem all_at (h : Fin 16) (d : Fin 64) (t : Fin 32768) : refAll Q K V S G B (ix3 h d t)
    = Online.attend (scores Q K S h t) (Online.lane fun κ => V (ix4 ⟨t.val / 4096, by omega⟩ κ ⟨h.val / 4, by omega⟩ d))
        (Ideal.logistic (G (ix3 ⟨t.val / 4096, by omega⟩ ⟨t.val % 4096, by omega⟩ ⟨h.val / 4 * 12 + h.val % 4 * 3 + 1, by omega⟩)
          + B (ix1 ⟨h.val / 4 * 12 + h.val % 4 * 3 + 1, by omega⟩))) := by
  have hμ : ∀ k : Fin 4096, refScores Q K S (ix5 ⟨t.val / 4096, by omega⟩ ⟨h.val / 4, by omega⟩ ⟨h.val % 4, by omega⟩ ⟨t.val % 4096, by omega⟩ k)
      = scores Q K S h t k.val := fun k => by
    rw [scores_at]; unfold scores Online.masked; rw [dif_pos k.isLt]; rfl
  have hM : refMax (refScores Q K S) (ix5 ⟨t.val / 4096, by omega⟩ ⟨h.val / 4, by omega⟩ ⟨h.val % 4, by omega⟩ ⟨t.val % 4096, by omega⟩ 0)
      = (Finset.range 4096).sup (scores Q K S h t) := by
    rw [max_at]; exact KernelIdeal.Hand.fold_max _ _ hμ
  have hE : ∀ k : Fin 4096, refExp (refScores Q K S) (refSafe (refMax (refScores Q K S)))
        (ix5 ⟨t.val / 4096, by omega⟩ ⟨h.val / 4, by omega⟩ ⟨h.val % 4, by omega⟩ ⟨t.val % 4096, by omega⟩ k)
      = Ideal.exp (scores Q K S h t k.val - if max ((Finset.range 4096).sup (scores Q K S h t)) (-((Finset.range 4096).sup (scores Q K S h t))) < ⊤
          then (Finset.range 4096).sup (scores Q K S h t) else 0) := fun k => by
    rw [exp_at, safe_at, hμ, hM]
  rw [refAll, out_at, gate_at, Online.attend, Finset.sum_range, Finset.sum_range]
  refine congrArg₂ (· * ·) rfl (Finset.sum_congr rfl fun k _ => ?_)
  rw [weights_at, hE, Finset.sum_congr rfl fun j _ => hE j, Online.lane, dif_pos k.isLt]

variable (m : (ℓ : Loc nD τ sig) → Buf (Elt Ideal) ℓ) (c : Dev nD)

theorem res_eq : (res_main_v53 m c : FVec Ideal S16x64x32768 .bf16)
    = refAll (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  unfold res_main_v53 refAll refOut refWeights refExp refSafe refMax refScores refGate
  rfl

end Cert.ReferenceIdeal.Hand

end
-- ==== Proof.FinalIdeal.lean ====
/- The kernel's result array is the reference's function of the arguments. -/
module

public import proofs.«01_k».proof.Proof.PointValue
public import proofs.«01_k».proof.Proof.ReferenceAt

@[expose] public section

set_option maxRecDepth 16384

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

/-- The reference's function of the arguments. -/
def target : FVec Ideal S16x64x32768 .bf16 :=
  Cert.ReferenceIdeal.Hand.refAll (argQ m c) (argK m c) (argV m c) (argS m c) (argG m c) (argB m c)

theorem target_at (r : Fin 4) (d : Fin 64) (l : Fin 512) (h : Fin 16) (hh : h.val = (group t).val * 4 + r.val)
    (n : Fin 32768) (hn : n.val = ((batch t).val * 8 + (tile t).val) * 512 + l.val) :
    target m c (ix3 h d n) = Online.attend (sc m c t r l) (Online.lane fun κ => argV m c (ix4 (batch t) κ (group t) d))
          (Ideal.logistic (argG m c (ix3 (batch t) ⟨(tile t).val * 512 + l.val, by omega⟩ ⟨(group t).val * 12 + r.val * 3 + 1, by omega⟩)
            + argB m c (ix1 ⟨(group t).val * 12 + r.val * 3 + 1, by omega⟩))) := by
  have hb : (⟨n.val / 4096, by omega⟩ : Fin 8) = batch t := Fin.ext (by have := (tile t).isLt; dsimp only; omega)
  have hp : (⟨n.val % 4096, by omega⟩ : Fin 4096) = ⟨(tile t).val * 512 + l.val, by omega⟩ := Fin.ext (by have := (tile t).isLt; dsimp only; omega)
  have hp' : n.val % 4096 = (tile t).val * 512 + l.val := congrArg Fin.val hp
  have hg : (⟨h.val / 4, by omega⟩ : Fin 4) = group t := Fin.ext (by dsimp only; omega)
  have hx : (⟨h.val / 4 * 12 + h.val % 4 * 3 + 1, by omega⟩ : Fin 48) = ⟨(group t).val * 12 + r.val * 3 + 1, by omega⟩ := Fin.ext (by dsimp only; omega)
  have hd : ∀ e : Fin 64, (⟨h.val / 4 * 256 + h.val % 4 * 64 + e.val, by omega⟩ : Fin 1024) = ⟨((group t).val * 4 + r.val) * 64 + e.val, by omega⟩ :=
    fun e => Fin.ext (by dsimp only; omega)
  refine (Cert.ReferenceIdeal.Hand.all_at (argQ m c) (argK m c) (argV m c) (argS m c) (argG m c) (argB m c) h d n).trans ?_
  unfold Cert.ReferenceIdeal.Hand.scores sc
  simp only [hb, hp, hp', hg, hx, hd]

theorem place (y : S4x64x512.Idx) : (((cfg0.win 6).blk t).view.emb y : S16x64x32768.Idx)
    = ix3 ⟨(group t).val * 4 + (y 0).val, by have := (y 0).isLt; change _ < 4 at this; omega⟩ (y 1)
        ⟨((batch t).val * 8 + (tile t).val) * 512 + (y 2).val, by have := (y 2).isLt; change _ < 512 at this; omega⟩ := by
  blk_ext [idx t, group, batch, tile]

/-- What the run leaves in the result array. -/
theorem final : (dats m 0 c).arrAt 6 (cfgs 0).N = target m c := by
  refine (dats m 0 c).arrAt_eq_of_covers 6 _ (by decide +kernel) fun t _ y => ?_
  blk_simp
  rw [after0_6]
  have hy : (y : S4x64x512.Idx) = ix3 (y 0) (y 1) (y 2) := by
    funext a; fin_cases a <;> rfl
  refine Eq.trans (congrArg _ hy) ?_
  refine (point_at m c t (y 0) (y 1) (y 2)).trans ?_
  refine Eq.symm ((congrArg (target m c) (place t y)).trans ?_)
  exact target_at m c t (y 0) (y 1) (y 2) _ rfl _ rfl

end Cert.KernelIdeal.Hand

end
-- ==== Proof.EvenProjValue.lean ====
/- The even layer's norm and projections: each result array of the kernel is the reference's. -/
module

public import proofs.«01_k».proof.Proof.Gen.EvenProjIdeal.Value
public import proofs.«01_k».proof.Proof.Gen.EvenProjReferenceIdeal.Run
public import Idealize.ShloMosaic.Lib.Pointwise
public import Idealize.ShloMosaic.Lib.Pipeline.ValueKit
public import Idealize.ShloMosaic.Lib.Claim

@[expose] public section

set_option maxRecDepth 16384

noncomputable section

/-! ## The reference's arrays -/

namespace Cert.EvenProjReferenceIdeal.Hand

open Idealize.ShloMosaic Idealize.ShloMosaic.TcCoe Idealize.SL.Sem
open Cert.EvenProjReferenceIdeal Cert.EvenProjReferenceIdeal.Gen

variable (H : FVec Ideal S32768x1024 .f32) (G : FVec Ideal S1024 .f32) (W : FVec Ideal S1024x5648 .f32)

/-- The integer zero as a float. -/
theorem int_zero : (FloatOps.sitofp (F := Ideal) .f32 0#32 : EReal) = 0 := by
  show (((0#32).toInt : ℝ) : EReal) = 0
  simp

/-- The normed rows. -/
def normed : FVec Ideal S32768x1024 .f32 :=
  mulf (mulf H (broadcastInDim S32768x1024 ![0, 1] bcast_S32768x1_S32768x1024_0_1 (Host.rsqrt (addf (Host.divf (broadcastInDim S32768x1 ![0] bcast_S32768_S32768x1_0 (Host.reduceAdd (mulf H H) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 G))

/-- All the projections side by side. -/
def product : FVec Ideal S32768x5648 .f32 :=
  Host.dotGeneral dot_S32768x1024_S1024x5648_S32768x5648_1_0_0_1_n_n none (normed H G) W

/-- A lane of a normed row. -/
def lane (n : Fin 32768) (k : Fin 1024) : EReal :=
  H (ix2 n k) * Ideal.rsqrt (Ideal.div (∑ x : Fin 1024, H (ix2 n x) * H (ix2 n x)) (Ideal.ofBits .f32 0x44800000#32) + Ideal.ofBits .f32 0x358637BD#32) * G (ix1 k)

/-- One entry of the projections. -/
def entry (n : Fin 32768) (j : Fin 5648) : EReal := ∑ k : Fin 1024, lane H G n k * W (ix2 k j)

theorem normed_at (n : Fin 32768) (k : Fin 1024) : normed H G (ix2 n k) = lane H G n k := by
  unfold lane
  pointwise [normed]

theorem product_at (n : Fin 32768) (j : Fin 5648) : product H G W (ix2 n j) = entry H G W n j := by
  unfold entry
  pointwise [product]
  exact Finset.sum_congr rfl fun k _ => by rw [normed_at]

def out0 : FVec Ideal S32768x1024 .f32 := extractStridedSlice S32768x1024 ![0, 0] (product H G W) slices_S32768x5648_S32768x1024_0_0
def out1 : FVec Ideal S32768x1536 .f32 := extractStridedSlice S32768x1536 ![0, 1024] (product H G W) slices_S32768x5648_S32768x1536_0_1024
def out2 : FVec Ideal S32768x2048 .f32 := extractStridedSlice S32768x2048 ![0, 2576] (product H G W) slices_S32768x5648_S32768x2048_0_2576
def out3 : FVec Ideal S32768x1024 .f32 := extractStridedSlice S32768x1024 ![0, 4624] (product H G W) slices_S32768x5648_S32768x1024_0_4624
def out4 : FVec Ideal S32768x128 .f32 := pad S32768x128 ![0, 0] ![0, 112] ![0, 0] (extractStridedSlice S32768x16 ![0, 2560] (product H G W) slices_S32768x5648_S32768x16_0_2560) (sitofp .f32 (constantI S_ 32 0#32)) pads_S32768x16_S32768x128_000_01120 h_S_
def out5 : FVec Ideal S16x32768 .f32 := transpose S16x32768 [1, 0] (extractStridedSlice S32768x16 ![0, 2560] (product H G W) slices_S32768x5648_S32768x16_0_2560) transposes_S32768x16_S16x32768_1_0

theorem out0_at (n : Fin 32768) (j : Fin 1024) : out0 H G W (ix2 n j) = entry H G W n ⟨j.val, by omega⟩ := by
  rw [← product_at]; pointwise [out0]
theorem out1_at (n : Fin 32768) (j : Fin 1536) : out1 H G W (ix2 n j) = entry H G W n ⟨1024 + j.val, by omega⟩ := by
  rw [← product_at]; pointwise [out1]
theorem out2_at (n : Fin 32768) (j : Fin 2048) : out2 H G W (ix2 n j) = entry H G W n ⟨2576 + j.val, by omega⟩ := by
  rw [← product_at]; pointwise [out2]
theorem out3_at (n : Fin 32768) (j : Fin 1024) : out3 H G W (ix2 n j) = entry H G W n ⟨4624 + j.val, by omega⟩ := by
  rw [← product_at]; pointwise [out3]
theorem out4_at (n : Fin 32768) (j : Fin 128) : out4 H G W (ix2 n j) = if h : j.val < 16 then entry H G W n ⟨2560 + j.val, by omega⟩ else 0 := by
  simp only [← product_at]; pointwise [out4]
  rw [int_zero]
theorem out5_at (j : Fin 16) (n : Fin 32768) : out5 H G W (ix2 j n) = entry H G W n ⟨2560 + j.val, by omega⟩ := by
  rw [← product_at]; pointwise [out5]

end Cert.EvenProjReferenceIdeal.Hand

/-! ## The kernel's arrays -/

namespace Cert.EvenProjIdeal.Hand

open Idealize.ShloMosaic Idealize.ShloMosaic.TcCoe Idealize.SL.Sem
open Cert.EvenProjIdeal Cert.EvenProjIdeal.Gen
open Cert.EvenProjReferenceIdeal.Hand (lane entry)

variable (m : (ℓ : Loc nD τ sig) → Buf (Elt Ideal) ℓ) (c : Dev nD) (t : Fin cfg0.N)

abbrev argH : FVec Ideal S32768x1024 .f32 := m ((c : Thread nD τ).loc main_arg0)
abbrev argG : FVec Ideal S1024 .f32 := m ((c : Thread nD τ).loc main_arg1)
abbrev argW : FVec Ideal S1024x5648 .f32 := m ((c : Thread nD τ).loc main_arg2)

theorem norm_at (x : FVec Ideal S512x1024 .f32) (g : FVec Ideal S1x1024 .f32) (n : Fin 512) (k : Fin 1024) :
    k0_pay3 (F := Ideal) x g (ix2 n k) = x (ix2 n k) * Ideal.rsqrt (Ideal.div (∑ z : Fin 1024, x (ix2 n z) * x (ix2 n z)) (Ideal.ofBits .f32 0x44800000#32) + Ideal.ofBits .f32 0x358637BD#32) * g (ix2 0 k) := by
  pointwise [k0_pay3]

theorem pay4_at (x : FVec Ideal S512x1024 .f32) (g : FVec Ideal S1x1024 .f32) (w : FVec Ideal S1024x1024 .bf16) (n : Fin 512) (j : Fin 1024) :
    k0_pay4 (F := Ideal) x g w (ix2 n j) = ∑ k : Fin 1024, k0_pay3 (F := Ideal) x g (ix2 n k) * w (ix2 k j) := by
  pointwise [k0_pay4]
theorem pay5_at (x : FVec Ideal S512x1024 .f32) (g : FVec Ideal S1x1024 .f32) (w : FVec Ideal S1024x1536 .bf16) (n : Fin 512) (j : Fin 1536) :
    k0_pay5 (F := Ideal) x g w (ix2 n j) = ∑ k : Fin 1024, k0_pay3 (F := Ideal) x g (ix2 n k) * w (ix2 k j) := by
  pointwise [k0_pay5]
theorem pay6_at (x : FVec Ideal S512x1024 .f32) (g : FVec Ideal S1x1024 .f32) (w : FVec Ideal S1024x2048 .bf16) (n : Fin 512) (j : Fin 2048) :
    k0_pay6 (F := Ideal) x g w (ix2 n j) = ∑ k : Fin 1024, k0_pay3 (F := Ideal) x g (ix2 n k) * w (ix2 k j) := by
  pointwise [k0_pay6]
theorem pay7_at (x : FVec Ideal S512x1024 .f32) (g : FVec Ideal S1x1024 .f32) (w : FVec Ideal S1024x1024 .bf16) (n : Fin 512) (j : Fin 1024) :
    k0_pay7 (F := Ideal) x g w (ix2 n j) = ∑ k : Fin 1024, k0_pay3 (F := Ideal) x g (ix2 n k) * w (ix2 k j) := by
  pointwise [k0_pay7]
theorem pay1_at (x : FVec Ideal S512x1024 .bf16) (w : FVec Ideal S1024x128 .bf16) (n : Fin 512) (j : Fin 128) :
    k0_pay1 (F := Ideal) x w (ix2 n j) = ∑ k : Fin 1024, x (ix2 n k) * w (ix2 k j) := by
  pointwise [k0_pay1]
theorem pay2_at (x : FVec Ideal S512x1024 .bf16) (w : FVec Ideal S16x1024 .bf16) (b : FVec Ideal S16x1 .f32) (j : Fin 16) (n : Fin 512) :
    k0_pay2 (F := Ideal) x w b (ix2 j n) = ∑ k : Fin 1024, w (ix2 j k) * x (ix2 n k) + b (ix2 j 0) := by
  pointwise [k0_pay2]

theorem entry_w (k : Fin 1024) (j : Fin 5760) : (V (F := Ideal) m c main_v6 : FVec Ideal S1024x5760 .bf16) (ix2 k j)
    = if h : j.val < 5632 then
        if h' : j.val < 2560 then argW m c (ix2 k ⟨j.val, by omega⟩) else argW m c (ix2 k ⟨2576 + (j.val - 2560), by omega⟩)
      else if h' : j.val - 5632 < 16 then argW m c (ix2 k ⟨2560 + (j.val - 5632), by omega⟩) else (0 : EReal) := by
  unfold V
  simp only [hostOps0, hostOps0_1, hostOps0_2, List.flatten_cons, List.flatten_nil, List.cons_append, List.nil_append, List.append_nil]
  entry_read
  simp -implicitDefEqProofs only [StableHlo.TRef.toBuf, StableHlo.TRef.ofBuf, cast_cast, cast_eq]
  pointwise
  refine dite_congr rfl (fun _ => rfl) fun _ => dite_congr rfl (fun _ => rfl) fun _ => ?_
  exact Cert.EvenProjReferenceIdeal.Hand.int_zero

theorem entry_wT (k : Fin 1024) (j : Fin 16) : (V (F := Ideal) m c main_v8 : FVec Ideal S16x1024 .bf16) (ix2 j k) = argW m c (ix2 k ⟨2560 + j.val, by omega⟩) := by
  unfold V
  simp only [hostOps0, hostOps0_1, hostOps0_2, List.flatten_cons, List.flatten_nil, List.cons_append, List.nil_append, List.append_nil]
  entry_read
  pointwise

theorem entry_g (k : Fin 1024) : (V (F := Ideal) m c main_v10 : FVec Ideal S1x1024 .f32) (ix2 0 k) = argG m c (ix1 k) := by
  unfold V
  simp only [hostOps0, hostOps0_1, hostOps0_2, List.flatten_cons, List.flatten_nil, List.cons_append, List.nil_append, List.append_nil]
  entry_read
  pointwise

theorem entry_b (j : Fin 16) : (V (F := Ideal) m c main_v11 : FVec Ideal S16x1 .f32) (ix2 j 0) = (0 : EReal) := by
  unfold V
  simp only [hostOps0, hostOps0_1, hostOps0_2, List.flatten_cons, List.flatten_nil, List.cons_append, List.nil_append, List.append_nil]
  entry_read
  pointwise

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![0, t.val] ∧ t.val < 64 :=
  (by decide +kernel : ∀ t : Fin grid0.N, _)

theorem point_lt : t.val < 64 := (idx t).2.2.2.2.2.2.2.2.2.2.2

/-- The row of the whole array that a point's row is. -/
abbrev row (n : Fin 512) : Fin 32768 := ⟨t.val * 512 + n.val, by have := point_lt t; omega⟩

theorem blk_x (n : Fin 512) (k : Fin 1024) : (iblk m c 0 t : FVec Ideal S512x1024 .f32) (ix2 n k) = argH m c (ix2 (row t n) k) := by
  blk_ext [iblk, V, idx t]

theorem blk_g (k : Fin 1024) : (iblk m c 1 t : FVec Ideal S1x1024 .f32) (ix2 0 k) = argG m c (ix1 k) := by
  rw [← entry_g]
  blk_ext [iblk, idx t]

theorem blk_w (k : Fin 1024) (j : Fin 5760) : (iblk m c 2 t : FVec Ideal S1024x5760 .bf16) (ix2 k j)
    = (V (F := Ideal) m c main_v6 : FVec Ideal S1024x5760 .bf16) (ix2 k j) := by
  blk_ext [iblk, idx t]

theorem blk_wT (k : Fin 1024) (j : Fin 16) : (iblk m c 3 t : FVec Ideal S16x1024 .bf16) (ix2 j k) = argW m c (ix2 k ⟨2560 + j.val, by omega⟩) := by
  rw [← entry_wT]
  blk_ext [iblk, idx t]

theorem blk_b (j : Fin 16) : (iblk m c 4 t : FVec Ideal S16x1 .f32) (ix2 j 0) = (0 : EReal) := by
  rw [← entry_b m c j]
  blk_ext [iblk, idx t]

theorem norm_blk (n : Fin 512) (k : Fin 1024) :
    k0_pay3 (F := Ideal) (iblk m c 0 t) (iblk m c 1 t) (ix2 n k) = lane (argH m c) (argG m c) (row t n) k := by
  rw [norm_at, blk_g]
  simp only [blk_x]
  rfl

theorem ld2 (X : FVec Ideal S1024x5760 .bf16) (k : Fin 1024) (j : Fin 1024) : (View.ld (Val := Elt Ideal) (e' := .bf16) X r0_2) (ix2 k j) = X (ix2 k ⟨j.val, by omega⟩) := by
  pointwise
theorem ld3 (X : FVec Ideal S1024x5760 .bf16) (k : Fin 1024) (j : Fin 1536) : (View.ld (Val := Elt Ideal) (e' := .bf16) X r0_3) (ix2 k j) = X (ix2 k ⟨1024 + j.val, by omega⟩) := by
  pointwise
theorem ld5 (X : FVec Ideal S1024x5760 .bf16) (k : Fin 1024) (j : Fin 2048) : (View.ld (Val := Elt Ideal) (e' := .bf16) X r0_5) (ix2 k j) = X (ix2 k ⟨2560 + j.val, by omega⟩) := by
  pointwise
theorem ld7 (X : FVec Ideal S1024x5760 .bf16) (k : Fin 1024) (j : Fin 1024) : (View.ld (Val := Elt Ideal) (e' := .bf16) X r0_7) (ix2 k j) = X (ix2 k ⟨4608 + j.val, by omega⟩) := by
  pointwise
theorem ld8 (X : FVec Ideal S1024x5760 .bf16) (k : Fin 1024) (j : Fin 128) : (View.ld (Val := Elt Ideal) (e' := .bf16) X r0_8) (ix2 k j) = X (ix2 k ⟨5632 + j.val, by omega⟩) := by
  pointwise

/-- The weights of a column of the projections taken before the time steps. -/
theorem w_low (k : Fin 1024) (j : Fin 5760) (i : Fin 5648) (h : j.val < 2560) (hi : i.val = j.val) :
    (iblk m c 2 t : FVec Ideal S1024x5760 .bf16) (ix2 k j) = argW m c (ix2 k i) := by
  rw [blk_w, entry_w]
  exact (dif_pos (by omega)).trans ((dif_pos h).trans (congrArg (fun z => argW m c (ix2 k z)) (Fin.ext hi.symm)))

/-- And after them. -/
theorem w_high (k : Fin 1024) (j : Fin 5760) (i : Fin 5648) (h : 2560 ≤ j.val) (h' : j.val < 5632) (hi : i.val = j.val + 16) :
    (iblk m c 2 t : FVec Ideal S1024x5760 .bf16) (ix2 k j) = argW m c (ix2 k i) := by
  rw [blk_w, entry_w]
  exact (dif_pos h').trans ((dif_neg (by omega)).trans (congrArg (fun z => argW m c (ix2 k z)) (Fin.ext (by dsimp only; omega))))

/-- The weights of the time steps, padded with zeros. -/
theorem w_step (k : Fin 1024) (j : Fin 128) :
    (iblk m c 2 t : FVec Ideal S1024x5760 .bf16) (ix2 k ⟨5632 + j.val, by omega⟩)
      = if h : j.val < 16 then argW m c (ix2 k ⟨2560 + j.val, by omega⟩) else (0 : EReal) := by
  rw [blk_w, entry_w]
  refine (dif_neg (by dsimp only; omega)).trans ?_
  by_cases h : j.val < 16
  · refine (dif_pos (by dsimp only; omega)).trans (Eq.trans ?_ (dif_pos h).symm)
    exact congrArg (fun z => argW m c (ix2 k z)) (Fin.ext (by dsimp only; omega))
  · refine (dif_neg (by dsimp only; omega)).trans ?_
    rw [dif_neg h]

/-- The reference's arrays over the kernel's arguments. -/
abbrev ref0 := Cert.EvenProjReferenceIdeal.Hand.out0 (argH m c) (argG m c) (argW m c)
abbrev ref1 := Cert.EvenProjReferenceIdeal.Hand.out1 (argH m c) (argG m c) (argW m c)
abbrev ref2 := Cert.EvenProjReferenceIdeal.Hand.out2 (argH m c) (argG m c) (argW m c)
abbrev ref3 := Cert.EvenProjReferenceIdeal.Hand.out3 (argH m c) (argG m c) (argW m c)
abbrev ref4 := Cert.EvenProjReferenceIdeal.Hand.out4 (argH m c) (argG m c) (argW m c)
abbrev ref5 := Cert.EvenProjReferenceIdeal.Hand.out5 (argH m c) (argG m c) (argW m c)

theorem point5 (n : Fin 512) (j : Fin 1024) :
    k0_pay4 (F := Ideal) (iblk m c 0 t) (iblk m c 1 t) (View.ld (iblk m c 2 t) r0_2) (ix2 n j) = ref0 m c (ix2 (row t n) j) := by
  refine (pay4_at _ _ _ n j).trans (Eq.trans ?_ (Cert.EvenProjReferenceIdeal.Hand.out0_at _ _ _ (row t n) j).symm)
  exact Finset.sum_congr rfl fun k _ => congrArg₂ (· * ·) (norm_blk m c t n k) ((ld2 (iblk m c 2 t) k j).trans
    (w_low m c t k _ _ (by dsimp only; omega) rfl))

theorem final5 : (dats m 0 c).arrAt 5 (cfgs 0).N = ref0 m c := by
  refine (dats m 0 c).arrAt_eq_of_covers 5 _ (by decide +kernel) fun t _ y => ?_
  blk_simp
  rw [after0_5]; frame_out
  have hy : (y : S512x1024.Idx) = ix2 (y 0) (y 1) := by
    funext a; fin_cases a <;> rfl
  have hp : (((cfg0.win 5).blk t).view.emb y : S32768x1024.Idx) = ix2 (row t (y 0)) (y 1) := by
    blk_ext [idx t]
  exact (congrArg _ hy).trans ((point5 m c t (y 0) (y 1)).trans (congrArg (ref0 m c) hp).symm)

theorem point6 (n : Fin 512) (j : Fin 1536) :
    k0_pay5 (F := Ideal) (iblk m c 0 t) (iblk m c 1 t) (View.ld (iblk m c 2 t) r0_3) (ix2 n j) = ref1 m c (ix2 (row t n) j) := by
  refine (pay5_at _ _ _ n j).trans (Eq.trans ?_ (Cert.EvenProjReferenceIdeal.Hand.out1_at _ _ _ (row t n) j).symm)
  exact Finset.sum_congr rfl fun k _ => congrArg₂ (· * ·) (norm_blk m c t n k) ((ld3 (iblk m c 2 t) k j).trans
    (w_low m c t k _ _ (by dsimp only; omega) rfl))

theorem final6 : (dats m 0 c).arrAt 6 (cfgs 0).N = ref1 m c := by
  refine (dats m 0 c).arrAt_eq_of_covers 6 _ (by decide +kernel) fun t _ y => ?_
  blk_simp
  rw [after0_6]; frame_out
  have hy : (y : S512x1536.Idx) = ix2 (y 0) (y 1) := by
    funext a; fin_cases a <;> rfl
  have hp : (((cfg0.win 6).blk t).view.emb y : S32768x1536.Idx) = ix2 (row t (y 0)) (y 1) := by
    blk_ext [idx t]
  exact (congrArg _ hy).trans ((point6 m c t (y 0) (y 1)).trans (congrArg (ref1 m c) hp).symm)

theorem point7 (n : Fin 512) (j : Fin 2048) :
    k0_pay6 (F := Ideal) (iblk m c 0 t) (iblk m c 1 t) (View.ld (iblk m c 2 t) r0_5) (ix2 n j) = ref2 m c (ix2 (row t n) j) := by
  refine (pay6_at _ _ _ n j).trans (Eq.trans ?_ (Cert.EvenProjReferenceIdeal.Hand.out2_at _ _ _ (row t n) j).symm)
  exact Finset.sum_congr rfl fun k _ => congrArg₂ (· * ·) (norm_blk m c t n k) ((ld5 (iblk m c 2 t) k j).trans
    (w_high m c t k _ _ (by dsimp only; omega) (by dsimp only; omega) (by dsimp only; omega)))

theorem final7 : (dats m 0 c).arrAt 7 (cfgs 0).N = ref2 m c := by
  refine (dats m 0 c).arrAt_eq_of_covers 7 _ (by decide +kernel) fun t _ y => ?_
  blk_simp
  rw [after0_7]; frame_out
  have hy : (y : S512x2048.Idx) = ix2 (y 0) (y 1) := by
    funext a; fin_cases a <;> rfl
  have hp : (((cfg0.win 7).blk t).view.emb y : S32768x2048.Idx) = ix2 (row t (y 0)) (y 1) := by
    blk_ext [idx t]
  exact (congrArg _ hy).trans ((point7 m c t (y 0) (y 1)).trans (congrArg (ref2 m c) hp).symm)

theorem point8 (n : Fin 512) (j : Fin 1024) :
    k0_pay7 (F := Ideal) (iblk m c 0 t) (iblk m c 1 t) (View.ld (iblk m c 2 t) r0_7) (ix2 n j) = ref3 m c (ix2 (row t n) j) := by
  refine (pay7_at _ _ _ n j).trans (Eq.trans ?_ (Cert.EvenProjReferenceIdeal.Hand.out3_at _ _ _ (row t n) j).symm)
  exact Finset.sum_congr rfl fun k _ => congrArg₂ (· * ·) (norm_blk m c t n k) ((ld7 (iblk m c 2 t) k j).trans
    (w_high m c t k _ _ (by dsimp only; omega) (by dsimp only; omega) (by dsimp only; omega)))

theorem final8 : (dats m 0 c).arrAt 8 (cfgs 0).N = ref3 m c := by
  refine (dats m 0 c).arrAt_eq_of_covers 8 _ (by decide +kernel) fun t _ y => ?_
  blk_simp
  rw [after0_8]; frame_out
  have hy : (y : S512x1024.Idx) = ix2 (y 0) (y 1) := by
    funext a; fin_cases a <;> rfl
  have hp : (((cfg0.win 8).blk t).view.emb y : S32768x1024.Idx) = ix2 (row t (y 0)) (y 1) := by
    blk_ext [idx t]
  exact (congrArg _ hy).trans ((point8 m c t (y 0) (y 1)).trans (congrArg (ref3 m c) hp).symm)

/-- The normed rows, as the last two outputs name them. -/
theorem pay8_eq : k0_pay8 (F := Ideal) (iblk m c 0 t) (iblk m c 1 t) (iblk m c 2 t) (iblk m c 3 t) (iblk m c 4 t)
    = k0_pay3 (F := Ideal) (iblk m c 0 t) (iblk m c 1 t) := by
  unfold k0_pay8
  frame_out

theorem point9 (n : Fin 512) (j : Fin 128) :
    k0_pay1 (F := Ideal) (k0_pay3 (F := Ideal) (iblk m c 0 t) (iblk m c 1 t)) (View.ld (iblk m c 2 t) r0_8) (ix2 n j) = ref4 m c (ix2 (row t n) j) := by
  refine (pay1_at _ _ n j).trans (Eq.trans ?_ (Cert.EvenProjReferenceIdeal.Hand.out4_at _ _ _ (row t n) j).symm)
  refine (Finset.sum_congr rfl fun k _ => congrArg₂ (· * ·) (norm_blk m c t n k) ((ld8 (iblk m c 2 t) k j).trans (w_step m c t k j))).trans ?_
  by_cases h : j.val < 16
  · refine Eq.trans ?_ (dif_pos h).symm
    exact Finset.sum_congr rfl fun k _ => by rw [dif_pos h]
  · refine Eq.trans ?_ (dif_neg h).symm
    exact Finset.sum_eq_zero fun k _ => by rw [dif_neg h]; exact mul_zero _

theorem final9 : (dats m 0 c).arrAt 9 (cfgs 0).N = ref4 m c := by
  refine (dats m 0 c).arrAt_eq_of_covers 9 _ (by decide +kernel) fun t _ y => ?_
  blk_simp
  rw [after0_9]; frame_out
  rw [pay8_eq]
  have hy : (y : S512x128.Idx) = ix2 (y 0) (y 1) := by
    funext a; fin_cases a <;> rfl
  have hp : (((cfg0.win 9).blk t).view.emb y : S32768x128.Idx) = ix2 (row t (y 0)) (y 1) := by
    blk_ext [idx t]
  exact (congrArg _ hy).trans ((point9 m c t (y 0) (y 1)).trans (congrArg (ref4 m c) hp).symm)

theorem point10 (j : Fin 16) (n : Fin 512) :
    k0_pay2 (F := Ideal) (k0_pay3 (F := Ideal) (iblk m c 0 t) (iblk m c 1 t)) (iblk m c 3 t) (iblk m c 4 t) (ix2 j n) = ref5 m c (ix2 j (row t n)) := by
  refine (pay2_at _ _ _ j n).trans (Eq.trans ?_ (Cert.EvenProjReferenceIdeal.Hand.out5_at _ _ _ j (row t n)).symm)
  refine Eq.trans ?_ (add_zero _)
  refine congrArg₂ (fun a b : EReal => a + b) (Finset.sum_congr rfl fun k _ => ?_) (blk_b m c t j)
  exact (congrArg₂ (fun a b : EReal => a * b) (blk_wT m c t k j) (norm_blk m c t n k)).trans (mul_comm _ _)

theorem final10 : (dats m 0 c).arrAt 10 (cfgs 0).N = ref5 m c := by
  refine (dats m 0 c).arrAt_eq_of_covers 10 _ (by decide +kernel) fun t _ y => ?_
  blk_simp
  rw [after0_10]; frame_out
  rw [pay8_eq]
  have hy : (y : S16x512.Idx) = ix2 (y 0) (y 1) := by
    funext a; fin_cases a <;> rfl
  have hp : (((cfg0.win 10).blk t).view.emb y : S16x32768.Idx) = ix2 (y 0) (row t (y 1)) := by
    blk_ext [idx t]
  exact (congrArg _ hy).trans ((point10 m c t (y 0) (y 1)).trans (congrArg (ref5 m c) hp).symm)

end Cert.EvenProjIdeal.Hand

end
-- ==== Proof.EvenOutValue.lean ====
/- The even layer's output projection: the kernel's result array is the reference's function of the arguments. -/
module

public import proofs.«01_k».proof.Proof.Gen.EvenOutIdeal.Value
public import proofs.«01_k».proof.Proof.Gen.EvenOutReferenceIdeal.Run
public import Idealize.ShloMosaic.Lib.Pointwise
public import Idealize.ShloMosaic.Lib.Pipeline.ValueKit
public import Idealize.ShloMosaic.Lib.Claim

@[expose] public section

set_option maxRecDepth 16384

noncomputable section

namespace Cert.EvenOutIdeal.Hand

open Idealize.ShloMosaic Idealize.ShloMosaic.TcCoe Idealize.SL.Sem
open Cert.EvenOutIdeal Cert.EvenOutIdeal.Gen

variable (m : (ℓ : Loc nD τ sig) → Buf (Elt Ideal) ℓ) (c : Dev nD) (t : Fin cfg0.N)

/-- The reference's function: the residual plus both halves, joined, times the weights. -/
def target (H : FVec Ideal S32768x1024 .f32) (A B : FVec Ideal S32768x1024 .f32) (W : FVec Ideal S2048x1024 .f32) : FVec Ideal S32768x1024 .f32 :=
  addf H (Host.dotGeneral Cert.EvenOutReferenceIdeal.dot_S32768x2048_S2048x1024_S32768x1024_1_0_0_1_n_n none
    (concatenate Cert.EvenOutReferenceIdeal.S32768x2048 1 [⟨S32768x1024, A⟩, ⟨S32768x1024, B⟩] Cert.EvenOutReferenceIdeal.Gen.concatenates_S32768x1024_S32768x1024_S32768x2048_d1) W)

theorem target_at (H A B : FVec Ideal S32768x1024 .f32) (W : FVec Ideal S2048x1024 .f32) (n : Fin 32768) (j : Fin 1024) :
    target H A B W (ix2 n j) = H (ix2 n j) + (∑ k : Fin 1024, A (ix2 n k) * W (ix2 ⟨k.val, by omega⟩ j)
      + ∑ k : Fin 1024, B (ix2 n k) * W (ix2 ⟨1024 + k.val, by omega⟩ j)) := by
  pointwise [target]

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ t.val < 64 :=
  (by decide +kernel : ∀ t : Fin grid0.N, _)

theorem pay_at (x0 : FVec Ideal S512x1024 .f32) (x1 x2 : FVec Ideal S512x1024 .bf16) (x3 x4 : FVec Ideal S1024x1024 .bf16) (n : Fin 512) (j : Fin 1024) :
    k0_pay1 (F := Ideal) x0 x1 x3 x2 x4 (ix2 n j) = x0 (ix2 n j) + (∑ k : Fin 1024, x1 (ix2 n k) * x3 (ix2 k j)
      + ∑ k : Fin 1024, x2 (ix2 n k) * x4 (ix2 k j)) := by
  pointwise [k0_pay1]

theorem final : (dats m 0 c).arrAt 5 (cfgs 0).N
    = target (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  have hy : (y : S512x1024.Idx) = ix2 (y 0) (y 1) := by
    funext a; fin_cases a <;> rfl
  refine (congrArg _ hy).trans ((pay_at _ _ _ _ _ (y 0) (y 1)).trans ?_)
  have hp : (((cfg0.win 5).blk t).view.emb y : S32768x1024.Idx)
      = ix2 ⟨t.val * 512 + (y 0).val, by have := (y 0).isLt; change _ < 512 at this; have := (idx t).2.2.2.2.2.2; omega⟩ (y 1) := by
    blk_ext [idx t]
  refine Eq.symm ((congrArg _ hp).trans ((target_at _ _ _ _ _ _).trans ?_))
  blk_point [iblk, V, idx t]
  all_goals simp [ix2]

end Cert.EvenOutIdeal.Hand

end
-- ==== Proof.OddOutValue.lean ====
/- The odd layer's output projection with the closing norm: the kernel's result array is the reference's function of the arguments. -/
module

public import proofs.«01_k».proof.Proof.Gen.OddOutIdeal.Value
public import proofs.«01_k».proof.Proof.Gen.OddOutReferenceIdeal.Run
public import Idealize.ShloMosaic.Lib.Pointwise
public import Idealize.ShloMosaic.Lib.Pipeline.ValueKit
public import Idealize.ShloMosaic.Lib.Claim

@[expose] public section

set_option maxRecDepth 16384

noncomputable section

/-! ## The reference's array -/

namespace Cert.OddOutReferenceIdeal.Hand

open Idealize.ShloMosaic Idealize.ShloMosaic.TcCoe Idealize.SL.Sem
open Cert.OddOutReferenceIdeal Cert.OddOutReferenceIdeal.Gen

variable (H : FVec Ideal S32768x1024 .f32) (A B Z : FVec Ideal S1024x32768 .f32) (W : FVec Ideal S1024x1024 .f32) (G : FVec Ideal S1024 .f32)

/-- The gate, silu of `Z`. -/
def gate : FVec Ideal S1024x32768 .f32 :=
  (mulf Z (Host.divf (broadcastInDim S1024x32768 ![] bcast_S_S1024x32768 (constant S_ .f32 0x3F800000#32)) (addf (broadcastInDim S1024x32768 ![] bcast_S_S1024x32768 (constant S_ .f32 0x3F800000#32)) (Host.exp (Host.negf Z)))))

/-- The residual stream after the projection. -/
def stream : FVec Ideal S32768x1024 .f32 :=
  addf H (Host.dotGeneral dot_S32768x1024_S1024x1024_S32768x1024_1_0_0_1_n_n none (transpose S32768x1024 [1, 0] (mulf (addf A B) (gate Z)) transposes_S1024x32768_S32768x1024_1_0) W)

/-- The reference's result. -/
def target : FVec Ideal S32768x1024 .f32 :=
  mulf (mulf (stream H A B Z W) (broadcastInDim S32768x1024 ![0, 1] bcast_S32768x1_S32768x1024_0_1 (Host.rsqrt (addf (Host.divf (broadcastInDim S32768x1 ![0] bcast_S32768_S32768x1_0 (Host.reduceAdd (mulf (stream H A B Z W) (stream H A B Z W)) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 G))

/-- One lane of the residual stream. -/
def lane (n : Fin 32768) (j : Fin 1024) : EReal :=
  H (ix2 n j) + ∑ k : Fin 1024, (A (ix2 k n) + B (ix2 k n)) * (Z (ix2 k n) * Ideal.logistic (Z (ix2 k n))) * W (ix2 k j)

theorem gate_at (k : Fin 1024) (n : Fin 32768) : gate Z (ix2 k n) = (Z (ix2 k n) * Ideal.logistic (Z (ix2 k n)) : EReal) := by
  pointwise [gate]
  rfl

theorem stream_at (n : Fin 32768) (j : Fin 1024) : stream H A B Z W (ix2 n j) = lane H A B Z W n j := by
  unfold lane
  simp only [← gate_at]
  pointwise [stream]

theorem target_at (n : Fin 32768) (j : Fin 1024) : target H A B Z W G (ix2 n j)
    = lane H A B Z W n j * Ideal.rsqrt (Ideal.div (∑ x : Fin 1024, lane H A B Z W n x * lane H A B Z W n x) (Ideal.ofBits .f32 0x44800000#32) + Ideal.ofBits .f32 0x358637BD#32) * G (ix1 j) := by
  simp only [← stream_at]
  pointwise [target]

end Cert.OddOutReferenceIdeal.Hand

/-! ## The kernel's array -/

namespace Cert.OddOutIdeal.Hand

open Idealize.ShloMosaic Idealize.ShloMosaic.TcCoe Idealize.SL.Sem
open Cert.OddOutIdeal Cert.OddOutIdeal.Gen
open Cert.OddOutReferenceIdeal.Hand (lane target target_at)

/-- One lane of the residual stream, from a point's blocks. -/
def own (a b z : FVec Ideal S1024x512 .f32) (x : FVec Ideal S512x1024 .f32) (w : FVec Ideal S1024x1024 .f32) (n : Fin 512) (j : Fin 1024) : EReal :=
  x (ix2 n j) + ∑ k : Fin 1024, (a (ix2 k n) + b (ix2 k n)) * (z (ix2 k n) * Ideal.logistic (z (ix2 k n))) * w (ix2 k j)

theorem pay_at (a b : FVec Ideal S1024x512 .bf16) (z : FVec Ideal S1024x512 .f32) (x : FVec Ideal S512x1024 .f32) (w : FVec Ideal S1024x1024 .bf16) (g : FVec Ideal S1x1024 .f32) (n : Fin 512) (j : Fin 1024) :
    k0_pay1 (F := Ideal) a b z x w g (ix2 n j)
      = own a b z x w n j * Ideal.rsqrt (Ideal.div (∑ i : Fin 1024, own a b z x w n i * own a b z x w n i) (Ideal.ofBits .f32 0x44800000#32) + Ideal.ofBits .f32 0x358637BD#32) * g (ix2 0 j) := by
  unfold own
  pointwise [k0_pay1]

variable (m : (ℓ : Loc nD τ sig) → Buf (Elt Ideal) ℓ) (c : Dev nD) (t : Fin cfg0.N)

abbrev argH := (m ((c : Thread nD τ).loc main_arg0) : FVec Ideal S32768x1024 .f32)
abbrev argA := (m ((c : Thread nD τ).loc main_arg1) : FVec Ideal S1024x32768 .f32)
abbrev argB := (m ((c : Thread nD τ).loc main_arg2) : FVec Ideal S1024x32768 .f32)
abbrev argZ := (m ((c : Thread nD τ).loc main_arg3) : FVec Ideal S1024x32768 .f32)
abbrev argW := (m ((c : Thread nD τ).loc main_arg4) : FVec Ideal S1024x1024 .f32)
abbrev argG := (m ((c : Thread nD τ).loc main_arg5) : FVec Ideal S1024 .f32)

theorem idx : ∀ t : Fin cfg0.N, win0_0.index t = ![t.val, 0] ∧ win0_1.index t = ![0, t.val] ∧ win0_2.index t = ![0, t.val]
    ∧ win0_3.index t = ![0, t.val] ∧ win0_4.index t = ![0, 0] ∧ win0_5.index t = ![0, 0] ∧ win0_6.index t = ![t.val, 0] ∧ t.val < 64 :=
  (by decide +kernel : ∀ t : Fin grid0.N, _)

theorem point_lt : t.val < 64 := (idx t).2.2.2.2.2.2.2

/-- The row of the whole array that a point's row is. -/
abbrev row (n : Fin 512) : Fin 32768 := ⟨t.val * 512 + n.val, by have := point_lt t; omega⟩

theorem blk_h (n : Fin 512) (k : Fin 1024) : (iblk m c 0 t : FVec Ideal S512x1024 .f32) (ix2 n k) = argH m c (ix2 (row t n) k) := by
  blk_ext [iblk, V, idx t]
theorem blk_a (k : Fin 1024) (n : Fin 512) : (iblk m c 1 t : FVec Ideal S1024x512 .bf16) (ix2 k n) = argA m c (ix2 k (row t n)) := by
  blk_point [iblk, V, idx t]
theorem blk_b (k : Fin 1024) (n : Fin 512) : (iblk m c 2 t : FVec Ideal S1024x512 .bf16) (ix2 k n) = argB m c (ix2 k (row t n)) := by
  blk_point [iblk, V, idx t]
theorem blk_z (k : Fin 1024) (n : Fin 512) : (iblk m c 3 t : FVec Ideal S1024x512 .f32) (ix2 k n) = argZ m c (ix2 k (row t n)) := by
  blk_ext [iblk, V, idx t]
theorem blk_w (k j : Fin 1024) : (iblk m c 4 t : FVec Ideal S1024x1024 .bf16) (ix2 k j) = argW m c (ix2 k j) := by
  blk_point [iblk, V, idx t]
theorem blk_g (j : Fin 1024) : (iblk m c 5 t : FVec Ideal S1x1024 .f32) (ix2 0 j) = argG m c (ix1 j) := by
  blk_point [iblk, V, idx t]

theorem own_blk (n : Fin 512) (j : Fin 1024) : own (iblk m c 1 t) (iblk m c 2 t) (iblk m c 3 t) (iblk m c 0 t) (iblk m c 4 t) n j
    = lane (argH m c) (argA m c) (argB m c) (argZ m c) (argW m c) (row t n) j := by
  unfold own lane
  refine congrArg₂ (fun a b : EReal => a + b) (blk_h m c t n j) (Finset.sum_congr rfl fun k _ => ?_)
  refine congrArg₂ (fun a b : EReal => a * b) (congrArg₂ (fun a b : EReal => a * b) (congrArg₂ (fun a b : EReal => a + b) (blk_a m c t k n) (blk_b m c t k n)) ?_) (blk_w m c t k j)
  exact congrArg (fun a : EReal => a * Ideal.logistic a) (blk_z m c t k n)

/-- The reference's array over the kernel's arguments. -/
abbrev ref := target (argH m c) (argA m c) (argB m c) (argZ m c) (argW m c) (argG m c)

theorem point (n : Fin 512) (j : Fin 1024) :
    k0_pay1 (F := Ideal) (iblk m c 1 t) (iblk m c 2 t) (iblk m c 3 t) (iblk m c 0 t) (iblk m c 4 t) (iblk m c 5 t) (ix2 n j) = ref m c (ix2 (row t n) j) := by
  refine (pay_at _ _ _ _ _ _ n j).trans (Eq.trans ?_ (target_at _ _ _ _ _ _ (row t n) j).symm)
  simp only [own_blk]
  exact congrArg (fun g : EReal => _ * g) (blk_g m c t j)

theorem final : (dats m 0 c).arrAt 6 (cfgs 0).N = ref m c := by
  refine (dats m 0 c).arrAt_eq_of_covers 6 _ (by decide +kernel) fun t _ y => ?_
  blk_simp
  rw [after0_6]; frame_out
  have hy : (y : S512x1024.Idx) = ix2 (y 0) (y 1) := by
    funext a; fin_cases a <;> rfl
  have hp : (((cfg0.win 6).blk t).view.emb y : S32768x1024.Idx) = ix2 (row t (y 0)) (y 1) := by
    blk_ext [idx t]
  exact (congrArg _ hy).trans ((point m c t (y 0) (y 1)).trans (congrArg (ref m c) hp).symm)

end Cert.OddOutIdeal.Hand

end
-- ==== Proof.lean ====
/- The claims of proofs.«01_k».proof.Defs, put together: the two frames of the kernel come from its runs (Proof/FrameKernel,
   Proof/FrameKernelIdeal), the reference's frame from its generated run; the projections' frames are generated, their values in Proof/EvenProjValue,
   Proof/EvenOutValue and Proof/OddOutValue. -/
module

public import proofs.«01_k».proof.Defs
public import proofs.«01_k».proof.Proof.FrameKernel
public import proofs.«01_k».proof.Proof.FrameKernelIdeal
public import proofs.«01_k».proof.Proof.FinalIdeal
public import Idealize.ShloMosaic.Lib.Claim
public import proofs.«01_k».proof.Proof.Gen.ReferenceIdeal.Run
public import proofs.«01_k».proof.Proof.EvenProjValue
public import proofs.«01_k».proof.Proof.EvenOutValue
public import proofs.«01_k».proof.Proof.OddOutValue
public import proofs.«01_k».proof.Proof.Gen.EvenProj.Frame
public import proofs.«01_k».proof.Proof.Gen.EvenOut.Frame
public import proofs.«01_k».proof.Proof.Gen.OddOut.Frame
public import Idealize.ShloMosaic.Adequacy
public import Idealize.ShloMosaic.Init

@[expose] public section

noncomputable section

namespace Cert.Proof

open Idealize.ShloMosaic Idealize.ShloMosaic.TcCoe Idealize.SL.Sem

theorem kernel_quiet : Cert.quiescent_Kernel := fun m ρ _ =>
  θ_run_with_sems (Cert.Kernel.Gen.frame_of (F := Bits) m ρ (Cert.Kernel.Hand.dats m) (fun _ _ => rfl)) (Cert.Kernel.Hand.run_main m ρ)

theorem ideal_quiet : Cert.quiescent_KernelIdeal := fun m ρ _ =>
  θ_run_with_sems (Cert.KernelIdeal.Gen.frame_of (F := Ideal) m ρ (Cert.KernelIdeal.Hand.dats m) (fun _ _ => rfl)) (Cert.KernelIdeal.Hand.run_main m ρ)

theorem reference_quiet : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem mask_named : Cert.preserves_Kernel_KernelIdeal :=
  IdealRules.named_const.statement Cert.KernelIdeal.κ "mask" .f32 0xF149F2CA#32 ⊥ rfl

theorem ideal_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (Pipeline.FramePost Cert.KernelIdeal.cfgs (Cert.KernelIdeal.Hand.dats m) 0 (Cert.KernelIdeal.Gen.V m)) :=
  (θ_run Cert.KernelIdeal.defs _ _).mono (fun _ h => h.1) (Cert.KernelIdeal.Hand.run_main m g)

theorem same_result : Cert.algebraic_KernelIdeal_ReferenceIdeal := fun m g m' g' _ hagree =>
  ⟨fun c => (Cert.KernelIdeal.Hand.dats m 0 c).arrAt 6 (Cert.KernelIdeal.cfgs 0).N,
    (θ_run Cert.KernelIdeal.defs _ _).mono (fun _ h c => ⟨h.1.out_eq c 6, h.2 c⟩)
      (θ_run_and (ideal_run m g) (Cert.KernelIdeal.Gen.frame_of (F := Ideal) m g (Cert.KernelIdeal.Hand.dats m) (fun _ _ => rfl) (ideal_run m g))),
    (θ_run Cert.ReferenceIdeal.defs _ _).mono
      (fun _ h c => ⟨(h c).1.trans ((Cert.ReferenceIdeal.Hand.res_eq m' c).trans (by
        obtain ⟨h0, h1, h2, h3, h4, h5⟩ := hagree c
        rw [h0, h1, h2, h3, h4, h5]
        exact (Cert.KernelIdeal.Hand.final m c).symm)), (h c).2⟩)
      (Cert.ReferenceIdeal.Value.run (F := Ideal) m' g')⟩

/-! ## The even layer's norm and projections -/

theorem even_proj_quiet : Cert.quiescent_EvenProj := fun m ρ _ => Cert.EvenProj.Gen.frame (F := Bits) m ρ

theorem even_proj_ideal_quiet : Cert.quiescent_EvenProjIdeal := fun m ρ _ => Cert.EvenProjIdeal.Gen.frame (F := Ideal) m ρ

theorem even_proj_reference_quiet : Cert.quiescent_EvenProjReferenceIdeal := fun m ρ _ =>
  (θ_run Cert.EvenProjReferenceIdeal.defs _ _).mono (fun r h => ⟨fun c => (h c).2.2.2.2.2.2, sem_eq_zero_of_no_sems (by decide) r.2⟩)
    (Cert.EvenProjReferenceIdeal.Value.run (F := Ideal) m ρ)

theorem even_proj_same : Cert.algebraic_EvenProjIdeal_EvenProjReferenceIdeal := fun m g m' g' _ hagree =>
  ⟨fun c => (Cert.EvenProjIdeal.Gen.dats m 0 c).arrAt 5 (Cert.EvenProjIdeal.cfgs 0).N,
    fun c => (Cert.EvenProjIdeal.Gen.dats m 0 c).arrAt 6 (Cert.EvenProjIdeal.cfgs 0).N,
    fun c => (Cert.EvenProjIdeal.Gen.dats m 0 c).arrAt 7 (Cert.EvenProjIdeal.cfgs 0).N,
    fun c => (Cert.EvenProjIdeal.Gen.dats m 0 c).arrAt 8 (Cert.EvenProjIdeal.cfgs 0).N,
    fun c => (Cert.EvenProjIdeal.Gen.dats m 0 c).arrAt 9 (Cert.EvenProjIdeal.cfgs 0).N,
    fun c => (Cert.EvenProjIdeal.Gen.dats m 0 c).arrAt 10 (Cert.EvenProjIdeal.cfgs 0).N,
    Cert.EvenProjIdeal.Value.run_blocks (F := Ideal) m g,
    (θ_run Cert.EvenProjReferenceIdeal.defs _ _).mono
      (fun _ h c => by
        obtain ⟨h0, h1, h2⟩ := hagree c
        have hc := h c
        rw [h0, h1, h2] at hc
        refine ⟨hc.1.trans (Cert.EvenProjIdeal.Hand.final5 m c).symm, hc.2.1.trans (Cert.EvenProjIdeal.Hand.final6 m c).symm, hc.2.2.1.trans (Cert.EvenProjIdeal.Hand.final7 m c).symm, hc.2.2.2.1.trans (Cert.EvenProjIdeal.Hand.final8 m c).symm, hc.2.2.2.2.1.trans (Cert.EvenProjIdeal.Hand.final9 m c).symm, hc.2.2.2.2.2.1.trans (Cert.EvenProjIdeal.Hand.final10 m c).symm, ?_⟩
        have hk := (h c).2.2.2.2.2.2
        exact hk)
      (Cert.EvenProjReferenceIdeal.Value.run (F := Ideal) m' g')⟩

/-! ## The even layer's output projection -/

theorem even_out_quiet : Cert.quiescent_EvenOut := fun m ρ _ => Cert.EvenOut.Gen.frame (F := Bits) m ρ

theorem even_out_ideal_quiet : Cert.quiescent_EvenOutIdeal := fun m ρ _ => Cert.EvenOutIdeal.Gen.frame (F := Ideal) m ρ

theorem even_out_reference_quiet : Cert.quiescent_EvenOutReferenceIdeal := fun m ρ _ =>
  (θ_run Cert.EvenOutReferenceIdeal.defs _ _).mono (fun r h => ⟨fun c => (h c).2, sem_eq_zero_of_no_sems (by decide) r.2⟩)
    (Cert.EvenOutReferenceIdeal.Value.run (F := Ideal) m ρ)

theorem even_out_same : Cert.algebraic_EvenOutIdeal_EvenOutReferenceIdeal := fun m g m' g' _ hagree =>
  ⟨fun c => (Cert.EvenOutIdeal.Gen.dats m 0 c).arrAt 5 (Cert.EvenOutIdeal.cfgs 0).N,
    Cert.EvenOutIdeal.Value.run_blocks (F := Ideal) m g,
    (θ_run Cert.EvenOutReferenceIdeal.defs _ _).mono
      (fun _ h c => by
        obtain ⟨h0, h1, h2, h3⟩ := hagree c
        have hc := h c
        rw [h0, h1, h2, h3] at hc
        refine ⟨hc.1.trans (Cert.EvenOutIdeal.Hand.final m c).symm, ?_⟩
        have hk := (h c).2
        exact hk)
      (Cert.EvenOutReferenceIdeal.Value.run (F := Ideal) m' g')⟩

/-! ## The odd layer's output projection with the closing norm -/

theorem odd_out_quiet : Cert.quiescent_OddOut := fun m ρ _ => Cert.OddOut.Gen.frame (F := Bits) m ρ

theorem odd_out_ideal_quiet : Cert.quiescent_OddOutIdeal := fun m ρ _ => Cert.OddOutIdeal.Gen.frame (F := Ideal) m ρ

theorem odd_out_reference_quiet : Cert.quiescent_OddOutReferenceIdeal := fun m ρ _ =>
  (θ_run Cert.OddOutReferenceIdeal.defs _ _).mono (fun r h => ⟨fun c => (h c).2, sem_eq_zero_of_no_sems (by decide) r.2⟩)
    (Cert.OddOutReferenceIdeal.Value.run (F := Ideal) m ρ)

theorem odd_out_same : Cert.algebraic_OddOutIdeal_OddOutReferenceIdeal := fun m g m' g' _ hagree =>
  ⟨fun c => (Cert.OddOutIdeal.Gen.dats m 0 c).arrAt 6 (Cert.OddOutIdeal.cfgs 0).N,
    Cert.OddOutIdeal.Value.run_blocks (F := Ideal) m g,
    (θ_run Cert.OddOutReferenceIdeal.defs _ _).mono
      (fun _ h c => by
        obtain ⟨h0, h1, h2, h3, h4, h5⟩ := hagree c
        have hc := h c
        rw [h0, h1, h2, h3, h4, h5] at hc
        refine ⟨hc.1.trans (Cert.OddOutIdeal.Hand.final m c).symm, ?_⟩
        have hk := (h c).2
        exact hk)
      (Cert.OddOutReferenceIdeal.Value.run (F := Ideal) m' g')⟩

/-! ## All of them -/

theorem claim : Cert.Claim :=
  ⟨Cert.Kernel.Gen.facts, Cert.KernelIdeal.Gen.facts, Cert.ReferenceIdeal.Gen.facts,
    Cert.EvenProj.Gen.facts, Cert.EvenProjIdeal.Gen.facts, Cert.EvenProjReferenceIdeal.Gen.facts,
    Cert.EvenOut.Gen.facts, Cert.EvenOutIdeal.Gen.facts, Cert.EvenOutReferenceIdeal.Gen.facts,
    Cert.OddOut.Gen.facts, Cert.OddOutIdeal.Gen.facts, Cert.OddOutReferenceIdeal.Gen.facts,
    kernel_quiet, ideal_quiet, reference_quiet,
    even_proj_quiet, even_proj_ideal_quiet, even_proj_reference_quiet,
    even_out_quiet, even_out_ideal_quiet, even_out_reference_quiet,
    odd_out_quiet, odd_out_ideal_quiet, odd_out_reference_quiet,
    mask_named, same_result, trivial, even_proj_same, trivial, even_out_same, trivial, odd_out_same⟩

end Cert.Proof

end
